-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_tables_in_range : Cert.Pre_tables_in_range.Facts] (m : (ℓ : Loc Cert.Kernel2.nD Cert.Kernel2.τ Cert.Kernel2.sig) → Buf (Elt Bits) ℓ) : Prop :=
  ∀ c : Dev Cert.Kernel2.nD,
    (Cert.Pre_tables_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables_in_range : Cert.Pre_tables_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_in_range [hPre_tables_in_range : Cert.Pre_tables_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_rows_in_range : Cert.Pre_rows_in_range.Facts] (m : (ℓ : Loc Cert.Kernel5.nD Cert.Kernel5.τ Cert.Kernel5.sig) → Buf (Elt Bits) ℓ) : Prop :=
  ∀ c : Dev Cert.Kernel5.nD,
    (Cert.Pre_rows_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_rows_in_range : Cert.Pre_rows_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_rows_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_rows_in_range [hPre_rows_in_range : Cert.Pre_rows_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_rows_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] [hPre_tables_in_range : Cert.Pre_tables_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables_in_range [hReference2Ideal : Cert.Reference2Ideal.Facts] [hPre_tables_in_range : Cert.Pre_tables_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] [hPre_rows_in_range : Cert.Pre_rows_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_rows_in_range : Cert.Pre_rows_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_rows_in_range [hReference5Ideal : Cert.Reference5Ideal.Facts] [hPre_rows_in_range : Cert.Pre_rows_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_rows_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] [hPre_tables_in_range : Cert.Pre_tables_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_v63) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] [hPre_rows_in_range : Cert.Pre_rows_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_in_range : Cert.Pre_tables_in_range.Facts) (hPre_rows_in_range : Cert.Pre_rows_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_tables_in_range := hPre_tables_in_range)
    ∧ quiescent_Kernel2Ideal (hKernel2Ideal := hKernel2Ideal) (hPre_tables_in_range := hPre_tables_in_range)
    ∧ quiescent_Reference2Ideal (hReference2Ideal := hReference2Ideal)
    ∧ quiescent_Reference2Ideal_pre_tables_in_range (hReference2Ideal := hReference2Ideal) (hPre_tables_in_range := hPre_tables_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_rows_in_range := hPre_rows_in_range)
    ∧ quiescent_Kernel5Ideal (hKernel5Ideal := hKernel5Ideal) (hPre_rows_in_range := hPre_rows_in_range)
    ∧ quiescent_Reference5Ideal (hReference5Ideal := hReference5Ideal)
    ∧ quiescent_Reference5Ideal_pre_rows_in_range (hReference5Ideal := hReference5Ideal) (hPre_rows_in_range := hPre_rows_in_range)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_tables_in_range := hPre_tables_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_rows_in_range := hPre_rows_in_range)
-- ==== Pre_rows_in_range.lean ====
abbrev S32768 : Shape := ⟨1, ![32768]⟩
abbrev S16384x1024 : Shape := ⟨2, ![16384, 1024]⟩
abbrev S16384x2 : Shape := ⟨2, ![16384, 2]⟩
abbrev S1024 : Shape := ⟨1, ![1024]⟩
abbrev S40960x1024 : Shape := ⟨2, ![40960, 1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S16384x1024 .f32) (main_arg2 : FVec F S16384x2 .f32) (main_arg3 : FVec F S1024 .f32) (main_arg4 : FVec F S40960x1024 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 40960#32
  let main_v3 : IVec S32768 32 := broadcastInDim S32768 ![] bcast_S_S32768 main_c_1
  let main_v4 : IVec S32768 1 := cmpi .slt main_arg0 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  main_v6
-- ==== Pre_tables_in_range.lean ====
abbrev S160 : Shape := ⟨1, ![160]⟩
abbrev S1 : Shape := ⟨1, ![1]⟩
abbrev S40960x1024 : Shape := ⟨2, ![40960, 1024]⟩
abbrev S32x1024x512 : Shape := ⟨3, ![32, 1024, 512]⟩
abbrev S32x512x1024 : Shape := ⟨3, ![32, 512, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S160 32) (main_arg1 : IVec S1 32) (main_arg2 : FVec F S40960x1024 .f32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 1 := constantI S_ 1 1#1
  let main_v2 : IVec S_ 1 := (fun x v => Host.reduce IntOp.andi x v reducesTo_S160_S_d0 h_S_) main_v1 main_c_0
  let main_c_1 : IVec S_ 32 := constantI S_ 32 32#32
  let main_v3 : IVec S160 32 := broadcastInDim S160 ![] bcast_S_S160 main_c_1
  let main_v4 : IVec S160 1 := cmpi .slt main_arg0 main_v3
  let main_c_2 : IVec S_ 1 := constantI S_ 1 1#1
  let main_v5 : IVec S_ 1 := (fun x v => Host.reduce IntOp.andi x v reducesTo_S160_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 160#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2048 : Shape := ⟨2, ![1024, 2048]⟩
abbrev S128x1024 : Shape := ⟨2, ![128, 1024]⟩
abbrev S128x1 : Shape := ⟨2, ![128, 1]⟩
abbrev S1x1024 : Shape := ⟨2, ![1, 1024]⟩
abbrev S128x16384 : Shape := ⟨2, ![128, 16384]⟩
abbrev S512x1024 : Shape := ⟨2, ![512, 1024]⟩
abbrev S512x512 : Shape := ⟨2, ![512, 512]⟩
abbrev S256x1024 : Shape := ⟨2, ![256, 1024]⟩
abbrev S128x512 : Shape := ⟨2, ![128, 512]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 19
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x2048, .bf16⟩
  | .hbm, ⟨7, _⟩ => ⟨S1024x1024, .f32⟩
  | .hbm, ⟨8, _⟩ => ⟨S1024, .f32⟩
  | .hbm, ⟨9, _⟩ => ⟨S128x1024, .bf16⟩
  | .hbm, ⟨10, _⟩ => ⟨S128x1, .f32⟩
  | .hbm, ⟨11, _⟩ => ⟨S1024x1024, .bf16⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S128x16384, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S128x1024, .bf16⟩
  | .local _ .vmem, ⟨16, _⟩ => ⟨S128x1, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S128x512, .f32⟩
  | .local _ .vmem, ⟨22, _⟩ => ⟨S128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  ![v16.toNat, c1_i32_4.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S1024x2048 : Shape := ⟨2, ![1024, 2048]⟩
abbrev S128x1024 : Shape := ⟨2, ![128, 1024]⟩
abbrev S128x1 : Shape := ⟨2, ![128, 1]⟩
abbrev S4x4096x1024 : Shape := ⟨3, ![4, 4096, 1024]⟩
abbrev S4x4096x512 : Shape := ⟨3, ![4, 4096, 512]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S1024x128 : Shape := ⟨2, ![1024, 128]⟩
abbrev S16384x128 : Shape := ⟨2, ![16384, 128]⟩
abbrev S1x128 : Shape := ⟨2, ![1, 128]⟩
abbrev S128x16384 : Shape := ⟨2, ![128, 16384]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x2048, .bf16⟩
  | .hbm, ⟨7, _⟩ => ⟨S1024x1024, .f32⟩
  | .hbm, ⟨8, _⟩ => ⟨S1024, .f32⟩
  | .hbm, ⟨9, _⟩ => ⟨S128x1024, .bf16⟩
  | .hbm, ⟨10, _⟩ => ⟨S128x1, .f32⟩
  | .hbm, ⟨11, _⟩ => ⟨S4x4096x1024, .f32⟩
  | .hbm, ⟨12, _⟩ => ⟨S16384x512, .f32⟩
  | .hbm, ⟨13, _⟩ => ⟨S4x4096x512, .f32⟩
  | .hbm, ⟨14, _⟩ => ⟨S16384x512, .f32⟩
  | .hbm, ⟨15, _⟩ => ⟨S4x4096x512, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S4x4096x1, .f32⟩
  | .hbm, ⟨30, _⟩ => ⟨S4x4096x1024, .f32⟩
  | .hbm, ⟨31, _⟩ => ⟨S4x4096x1024, .f32⟩
  | .hbm, ⟨32, _⟩ => ⟨S1x1x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x4x256, .f32⟩
  | .hbm, ⟨37, _⟩ => ⟨S1024x2048, .f32⟩
  | .hbm, ⟨38, _⟩ => ⟨S4x256x2048, .f32⟩
  | .hbm, ⟨39, _⟩ => ⟨S4x256x1024, .f32⟩
  | .hbm, ⟨40, _⟩ => ⟨S4x256x1024, .f32⟩
  | .hbm, ⟨41, _⟩ => ⟨S4x256x4x256, .f32⟩
  | .hbm, ⟨42, _⟩ => ⟨S4x256x4x256, .f32⟩
  | .hbm, ⟨43, _⟩ => ⟨S4x4x4096x256, .f32⟩
  | .hbm, ⟨44, _⟩ => ⟨S_, .f32⟩
  | .hbm, ⟨45, _⟩ => ⟨S4x4x4096x256, .f32⟩
  | .hbm, ⟨46, _⟩ => ⟨S4x4x4096x256, .f32⟩
  | .hbm, ⟨47, _⟩ => ⟨S_, .f32⟩
  | .hbm, ⟨48, _⟩ => ⟨S4x4x4096, .f32⟩
  | .hbm, ⟨49, _⟩ => ⟨S_, .f32⟩
  | .hbm, ⟨50, _⟩ => ⟨S4x4x4096, .f32⟩
  | .hbm, ⟨51, _⟩ => ⟨S4x4x4096, .f32⟩
  | .hbm, ⟨52, _⟩ => ⟨S4x4x4096x1, .f32⟩
  | .hbm, ⟨53, _⟩ => ⟨S4x4x4096x256, .f32⟩
  | .hbm, ⟨54, _⟩ => ⟨S4x4x4096x256, .f32⟩
  | .hbm, ⟨55, _⟩ => ⟨S4x4x4096x256, .f32⟩
  | .hbm, ⟨56, _⟩ => ⟨S_, .f32⟩
  | .hbm, ⟨57, _⟩ => ⟨S4x4x4096, .f32⟩
  | .hbm, ⟨58, _⟩ => ⟨S4x4x4096x1, .f32⟩
  | .hbm, ⟨59, _⟩ => ⟨S4x4x4096x256, .f32⟩
  | .hbm, ⟨60, _⟩ => ⟨S4x4x4096x256, .f32⟩
  | .hbm, ⟨61, _⟩ => ⟨S4x4x256x4096, .f32⟩
  | .hbm, ⟨62, _⟩ => ⟨S4x4096x4x256, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S_, .f32⟩
  | .hbm, ⟨71, _⟩ => ⟨S4x4096x1, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S1x1x1024, .f32⟩
  | .hbm, ⟨80, _⟩ => ⟨S4x4096x1024, .f32⟩
  | .hbm, ⟨81, _⟩ => ⟨S4x4096x1024, .f32⟩
  | .hbm, ⟨82, _⟩ => ⟨S16384x1024, .f32⟩
  | .hbm, ⟨83, _⟩ => ⟨S128x1024, .f32⟩
  | .hbm, ⟨84, _⟩ => ⟨S1024x128, .f32⟩
  | .hbm, ⟨85, _⟩ => ⟨S16384x128, .f32⟩
  | .hbm, ⟨86, _⟩ => ⟨S1x128, .f32⟩
  | .hbm, ⟨87, _⟩ => ⟨S16384x128, .f32⟩
  | .hbm, ⟨88, _⟩ => ⟨S16384x128, .f32⟩
  | .hbm, ⟨89, _⟩ => ⟨S16384x1024, .f32⟩
  | .hbm, ⟨90, _⟩ => ⟨S128x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S40960x1024 : Shape := ⟨2, ![40960, 1024]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 5
  | .vmem => 10
  | .smem => 2
  | _ => 0

abbrev bufTy : (tb : Table) → Fin (tcTables nBuf tb) → BufTy
  | .hbm, ⟨0, _⟩ => ⟨S40960x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S40960x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .smem, ⟨0, _⟩ => ⟨S160, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S160 : Shape := ⟨1, ![160]⟩
abbrev S1 : Shape := ⟨1, ![1]⟩
abbrev S40960x1024 : Shape := ⟨2, ![40960, 1024]⟩
abbrev S32x1024x512 : Shape := ⟨3, ![32, 1024, 512]⟩
abbrev S32x512x1024 : Shape := ⟨3, ![32, 512, 1024]⟩
abbrev S160x256x1024 : Shape := ⟨3, ![160, 256, 1024]⟩
abbrev S_ : Shape := ⟨0, ![]⟩
abbrev S160x1 : Shape := ⟨2, ![160, 1]⟩
abbrev S160x1024x512 : Shape := ⟨3, ![160, 1024, 512]⟩
abbrev S160x256x512 : Shape := ⟨3, ![160, 256, 512]⟩
abbrev S160x512x1024 : Shape := ⟨3, ![160, 512, 1024]⟩
abbrev S160x1x1 : Shape := ⟨3, ![160, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x1024, .f32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S160x256x1024, .f32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S_, .i32⟩
  | .hbm, ⟨11, _⟩ => ⟨S160, .i32⟩
  | .hbm, ⟨12, _⟩ => ⟨S160, .i32⟩
  | .hbm, ⟨13, _⟩ => ⟨S160, .i32⟩
  | .hbm, ⟨14, _⟩ => ⟨S160x1, .i32⟩
  | .hbm, ⟨15, _⟩ => ⟨S160x1024x512, .f32⟩
  | .hbm, ⟨16, _⟩ => ⟨S160x256x512, .f32⟩
  | .hbm, ⟨17, _⟩ => ⟨S_, .i32⟩
  | .hbm, ⟨18, _⟩ => ⟨S160, .i32⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S160x1, .i32⟩
  | .hbm, ⟨25, _⟩ => ⟨S160x1024x512, .f32⟩
  | .hbm, ⟨26, _⟩ => ⟨S160x256x512, .f32⟩
  | .hbm, ⟨27, _⟩ => ⟨S160x256x512, .f32⟩
  | .hbm, ⟨28, _⟩ => ⟨S160x256x512, .f32⟩
  | .hbm, ⟨29, _⟩ => ⟨S_, .f32⟩
  | .hbm, ⟨30, _⟩ => ⟨S160x256x512, .f32⟩
  | .hbm, ⟨31, _⟩ => ⟨S160x256x512, .f32⟩
  | .hbm, ⟨32, _⟩ => ⟨S_, .f32⟩
  | .hbm, ⟨33, _⟩ => ⟨S160x256x512, .f32⟩
  | .hbm, ⟨34, _⟩ => ⟨S160x256x512, .f32⟩
  | .hbm, ⟨35, _⟩ => ⟨S160x256x512, .f32⟩
  | .hbm, ⟨36, _⟩ => ⟨S160x256x512, .f32⟩
  | .hbm, ⟨37, _⟩ => ⟨S_, .i32⟩
  | .hbm, ⟨38, _⟩ => ⟨S160, .i32⟩
  | .hbm, ⟨39, _⟩ => ⟨S160, .i1⟩
  | .hbm, ⟨40, _⟩ => ⟨S_, .i32⟩
  | .hbm, ⟨41, _⟩ => ⟨S160, .i32⟩
  | .hbm, ⟨42, _⟩ => ⟨S160, .i32⟩
  | .hbm, ⟨43, _⟩ => ⟨S160, .i32⟩
  | .hbm, ⟨44, _⟩ => ⟨S160x1, .i32⟩
  | .hbm, ⟨45, _⟩ => ⟨S160x512x1024, .f32⟩
  | .hbm, ⟨46, _⟩ => ⟨S160x256x1024, .f32⟩
  | .hbm, ⟨47, _⟩ => ⟨S160, .i32⟩
  | .hbm, ⟨48, _⟩ => ⟨S160, .i32⟩
  | .hbm, ⟨49, _⟩ => ⟨S160, .i1⟩
  | .hbm, ⟨50, _⟩ => ⟨S160x1x1, .i1⟩
  | .hbm, ⟨51, _⟩ => ⟨S_, .f32⟩
  | .hbm, ⟨52, _⟩ => ⟨S_, .f32⟩
  | .hbm, ⟨53, _⟩ => ⟨S160x256x1024, .i1⟩
  | .hbm, ⟨54, _⟩ => ⟨S160x256x1024, .f32⟩
  | .hbm, ⟨55, _⟩ => ⟨S160x256x1024, .f32⟩
  | .hbm, ⟨56, _⟩ => ⟨S40960x1024, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v31 : Ref sig .tc := ⟨.hbm, 55, rfl⟩
abbrev main_v32 : Ref sig .tc := ⟨.hbm, 56, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2048 : Shape := ⟨2, ![1024, 2048]⟩
abbrev S3x512 : Shape := ⟨2, ![3, 512]⟩
abbrev S512 : Shape := ⟨1, ![512]⟩
abbrev S8x64x8x64 : Shape := ⟨4, ![8, 64, 8, 64]⟩
abbrev S_ : Shape := ⟨0, ![]⟩
abbrev S512x512 : Shape := ⟨2, ![512, 512]⟩
abbrev S1x1024 : Shape := ⟨2, ![1, 1024]⟩
abbrev S1x512 : Shape := ⟨2, ![1, 512]⟩
abbrev S16384x512 : Shape := ⟨2, ![16384, 512]⟩
abbrev S512x1024 : Shape := ⟨2, ![512, 1024]⟩
abbrev S8x1024 : Shape := ⟨2, ![8, 1024]⟩
abbrev S512x1 : Shape := ⟨2, ![512, 1]⟩
abbrev S512x2048 : Shape := ⟨2, ![512, 2048]⟩
abbrev S8 : Shape := ⟨1, ![8]⟩
abbrev S8x1 : Shape := ⟨2, ![8, 1]⟩
abbrev S16x1024 : Shape := ⟨2, ![16, 1024]⟩
abbrev S1024x1024 : Shape := ⟨2, ![1024, 1024]⟩
abbrev S16x512 : Shape := ⟨2, ![16, 512]⟩

abbrev nBuf : Space → Nat
  | .hbm => 22
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S3x512, .f32⟩
  | .hbm, ⟨4, _⟩ => ⟨S512, .f32⟩
  | .hbm, ⟨5, _⟩ => ⟨S512, .f32⟩
  | .hbm, ⟨6, _⟩ => ⟨S8x64x8x64, .i32⟩
  | .hbm, ⟨7, _⟩ => ⟨S8x64x8x64, .i32⟩
  | .hbm, ⟨8, _⟩ => ⟨S8x64x8x64, .i1⟩
  | .hbm, ⟨9, _⟩ => ⟨S_, .f32⟩
  | .hbm, ⟨10, _⟩ => ⟨S_, .f32⟩
  | .hbm, ⟨11, _⟩ => ⟨S8x64x8x64, .f32⟩
  | .hbm, ⟨12, _⟩ => ⟨S8x64x8x64, .f32⟩
  | .hbm, ⟨13, _⟩ => ⟨S8x64x8x64, .f32⟩
  | .hbm, ⟨14, _⟩ => ⟨S512x512, .f32⟩
  | .hbm, ⟨15, _⟩ => ⟨S512x512, .bf16⟩
  | .hbm, ⟨16, _⟩ => ⟨S1x1024, .f32⟩
  | .hbm, ⟨17, _⟩ => ⟨S1024x2048, .bf16⟩
  | .hbm, ⟨18, _⟩ => ⟨S1x512, .f32⟩
  | .hbm, ⟨19, _⟩ => ⟨S1x512, .f32⟩
  | .hbm, ⟨20, _⟩ => ⟨S16384x512, .bf16⟩
  | .hbm, ⟨21, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1024x2048, .bf16⟩
  | .local _ .vmem, ⟨8, _⟩ => ⟨S3x512, .f32⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S16384x1024 : Shape := ⟨2, ![16384, 1024]⟩
abbrev S1024 : Shape := ⟨1, ![1024]⟩
abbrev S1024x2048 : Shape := ⟨2, ![1024, 2048]⟩
abbrev S3x512 : Shape := ⟨2, ![3, 512]⟩
abbrev S512 : Shape := ⟨1, ![512]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S4x4096x512 : Shape := ⟨3, ![4, 4096, 512]⟩
abbrev S4x4098x512 : Shape := ⟨3, ![4, 4098, 512]⟩
abbrev S1x512 : Shape := ⟨2, ![1, 512]⟩
abbrev S1x1x512 : Shape := ⟨3, ![1, 1, 512]⟩
abbrev S4x4096x8x64 : Shape := ⟨4, ![4, 4096, 8, 64]⟩
abbrev S8x64 : Shape := ⟨2, ![8, 64]⟩
abbrev S4x4096x8 : Shape := ⟨3, ![4, 4096, 8]⟩
abbrev S4x4096x8x1 : Shape := ⟨4, ![4, 4096, 8, 1]⟩
abbrev S1x1x8x64 : Shape := ⟨4, ![1, 1, 8, 64]⟩
abbrev S16384x512 : Shape := ⟨2, ![16384, 512]⟩

abbrev nBuf : Space → Nat
  | .hbm => 78
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S3x512, .f32⟩
  | .hbm, ⟨4, _⟩ => ⟨S512, .f32⟩
  | .hbm, ⟨5, _⟩ => ⟨S512, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x2048, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S_, .i32⟩
  | .hbm, ⟨30, _⟩ => ⟨S_, .f32⟩
  | .hbm, ⟨31, _⟩ => ⟨S4x4098x512, .f32⟩
  | .hbm, ⟨32, _⟩ => ⟨S1x512, .f32⟩
  | .hbm, ⟨33, _⟩ => ⟨S512, .f32⟩
  | .hbm, ⟨34, _⟩ => ⟨S4x4096x512, .f32⟩
  | .hbm, ⟨35, _⟩ => ⟨S1x1x512, .f32⟩
  | .hbm, ⟨36, _⟩ => ⟨S4x4096x512, .f32⟩
  | .hbm, ⟨37, _⟩ => ⟨S4x4096x512, .f32⟩
  | .hbm, ⟨38, _⟩ => ⟨S1x512, .f32⟩
  | .hbm, ⟨39, _⟩ => ⟨S512, .f32⟩
  | .hbm, ⟨40, _⟩ => ⟨S4x4096x512, .f32⟩
  | .hbm, ⟨41, _⟩ => ⟨S1x1x512, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S1x512, .f32⟩
  | .hbm, ⟨46, _⟩ => ⟨S512, .f32⟩
  | .hbm, ⟨47, _⟩ => ⟨S4x4096x512, .f32⟩
  | .hbm, ⟨48, _⟩ => ⟨S1x1x512, .f32⟩
  | .hbm, ⟨49, _⟩ => ⟨S4x4096x512, .f32⟩
  | .hbm, ⟨50, _⟩ => ⟨S4x4096x512, .f32⟩
  | .hbm, ⟨51, _⟩ => ⟨S4x4096x512, .f32⟩
  | .hbm, ⟨52, _⟩ => ⟨S1x1x512, .f32⟩
  | .hbm, ⟨53, _⟩ => ⟨S4x4096x512, .f32⟩
  | .hbm, ⟨54, _⟩ => ⟨S4x4096x512, .f32⟩
  | .hbm, ⟨55, _⟩ => ⟨S4x4096x512, .f32⟩
  | .hbm, ⟨56, _⟩ => ⟨S4x4096x8x64, .f32⟩
  | .hbm, ⟨57, _⟩ => ⟨S8x64, .f32⟩
  | .hbm, ⟨58, _⟩ => ⟨S4x4096x8x64, .f32⟩
  | .hbm, ⟨59, _⟩ => ⟨S_, .f32⟩
  | .hbm, ⟨60, _⟩ => ⟨S4x4096x8, .f32⟩
  | .hbm, ⟨61, _⟩ => ⟨S4x4096x8x1, .f32⟩
  | .hbm, ⟨62, _⟩ => ⟨S_, .f32⟩
  | .hbm, ⟨63, _⟩ => ⟨S4x4096x8x1, .f32⟩
  | .hbm, ⟨64, _⟩ => ⟨S4x4096x8x1, .f32⟩
  | .hbm, ⟨65, _⟩ => ⟨S_, .f32⟩
  | .hbm, ⟨66, _⟩ => ⟨S4x4096x8x1, .f32⟩
  | .hbm, ⟨67, _⟩ => ⟨S4x4096x8x1, .f32⟩
  | .hbm, ⟨68, _⟩ => ⟨S4x4096x8x1, .f32⟩
  | .hbm, ⟨69, _⟩ => ⟨S4x4096x8x64, .f32⟩
  | .hbm, ⟨70, _⟩ => ⟨S4x4096x8x64, .f32⟩
  | .hbm, ⟨71, _⟩ => ⟨S1x1x8x64, .f32⟩
  | .hbm, ⟨72, _⟩ => ⟨S4x4096x8x64, .f32⟩
  | .hbm, ⟨73, _⟩ => ⟨S4x4096x8x64, .f32⟩
  | .hbm, ⟨74, _⟩ => ⟨S16384x512, .f32⟩
  | .hbm, ⟨75, _⟩ => ⟨S16384x512, .bf16⟩
  | .hbm, ⟨76, _⟩ => ⟨S16384x512, .f32⟩
  | .hbm, ⟨77, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_cst_3 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩

abbrev nD : Nat := 1
abbrev τ : Topo := Topo.v7x

variable {F : FTy → Type} [FloatOps F]
-- ==== Kernel4.lean ====
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .local _ .vmem, ⟨0, _⟩ => ⟨S1024x1024, .f32⟩
  | .local _ .vmem, ⟨1, _⟩ => ⟨S1x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S1024x1 : Shape := ⟨2, ![1024, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x2048, .f32⟩
  | .hbm, ⟨20, _⟩ => ⟨S1024x2048, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel5.lean ====
abbrev S32768 : Shape := ⟨1, ![32768]⟩
abbrev S16384x1024 : Shape := ⟨2, ![16384, 1024]⟩
abbrev S16384x2 : Shape := ⟨2, ![16384, 2]⟩
abbrev S1024 : Shape := ⟨1, ![1024]⟩
abbrev S40960x1024 : Shape := ⟨2, ![40960, 1024]⟩
abbrev S1x1024 : Shape := ⟨2, ![1, 1024]⟩
abbrev S256x1024 : Shape := ⟨2, ![256, 1024]⟩
abbrev S256x2 : Shape := ⟨2, ![256, 2]⟩
abbrev S2x256x1024 : Shape := ⟨3, ![2, 256, 1024]⟩
abbrev S_ : Shape := ⟨0, ![]⟩
abbrev S1 : Shape := ⟨1, ![1]⟩
abbrev S1x1x1024 : Shape := ⟨3, ![1, 1, 1024]⟩
abbrev S256x1 : Shape := ⟨2, ![256, 1]⟩
abbrev S1x256x1024 : Shape := ⟨3, ![1, 256, 1024]⟩
abbrev S256 : Shape := ⟨1, ![256]⟩

abbrev nBuf : Space → Nat
  | .hbm => 6
  | .vmem => 8
  | .smem => 1
  | _ => 0

abbrev bufTy : (tb : Table) → Fin (tcTables nBuf tb) → BufTy
  | .hbm, ⟨0, _⟩ => ⟨S16384x1024, .f32⟩
  | .hbm, ⟨1, _⟩ => ⟨S16384x2, .f32⟩
  | .hbm, ⟨2, _⟩ => ⟨S1024, .f32⟩
  | .hbm, ⟨3, _⟩ => ⟨S40960x1024, .f32⟩
  | .hbm, ⟨4, _⟩ => ⟨S1x1024, .f32⟩
  | .hbm, ⟨5, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x2, .f32⟩
  | .local _ .vmem, ⟨3, _⟩ => ⟨S256x2, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S2x256x1024, .f32⟩
  | .local _ .smem, ⟨0, _⟩ => ⟨S32768, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (i : grid0.Coords) (k0_t1 : Fin k0_t1_loop.trips) : Fin 1 → Nat :=
  let c0_i32_24 : BitVec 32 := 0#32
  let arg0 : BitVec 32 := BitVec.ofNat 32 (i 0).val
  let c256_i32_23 : BitVec 32 := 256#32
  let v32 : BitVec 32 := Scalar.muli arg0 c256_i32_23
  let v33 : BitVec 32 := Scalar.addi c0_i32_24 v32
  let c0_i32 : BitVec 32 := 0#32
  let c1_i32 : BitVec 32 := 1#32
  let arg9 : BitVec 32 := Scf.iv c0_i32 c1_i32 k0_t1
  let v34 : BitVec 32 := Scalar.addi v33 arg9
  let v35 : Index := Scalar.indexCast v34
  ![v35.toNat]
def k0_off2 (k0_t1 : Fin k0_t1_loop.trips) : Fin 3 → Nat :=
  let c0_i32_25 : BitVec 32 := 0#32
  let c0_i32 : BitVec 32 := 0#32
  let c1_i32 : BitVec 32 := 1#32
  let arg9 : BitVec 32 := Scf.iv c0_i32 c1_i32 k0_t1
  let c0_i32_26 : BitVec 32 := 0#32
  ![0, arg9.toNat, 0]
def k0_off3 (v36 : BitVec 32) : Fin 2 → Nat :=
  let c0_i32_27 : BitVec 32 := 0#32
  ![v36.toNat, 0]

def k0_chk1 (v36 : BitVec 32) : Prop :=
  (∀ a, (k0_off3 v36) a + S1x1024.size a ≤ S40960x1024.size a)
theorem k0_off3_inb : ∀ (v36 : BitVec 32) (k0_hw1 : k0_chk1 v36), ∀ a, (k0_off3 v36) a + S1x1024.size a ≤ S40960x1024.size a := fun v36 k0_hw1 => k0_hw1

def k0_off4 (i : grid0.Coords) (k0_t1 : Fin k0_t1_loop.trips) : Fin 1 → Nat :=
  let c16384_i32 : BitVec 32 := 16384#32
  let arg0 : BitVec 32 := BitVec.ofNat 32 (i 0).val
  let c256_i32_28 : BitVec 32 := 256#32
  let v40 : BitVec 32 := Scalar.muli arg0 c256_i32_28
  let v41 : BitVec 32 := Scalar.addi c16384_i32 v40
  let c0_i32 : BitVec 32 := 0#32
  let c1_i32 : BitVec 32 := 1#32
  let arg9 : BitVec 32 := Scf.iv c0_i32 c1_i32 k0_t1
  let v42 : BitVec 32 := Scalar.addi v41 arg9
  let v43 : Index := Scalar.indexCast v42
  ![v43.toNat]
def k0_off5 (k0_t1 : Fin k0_t1_loop.trips) : Fin 3 → Nat :=
  let c1_i32_29 : BitVec 32 := 1#32
  let c0_i32 : BitVec 32 := 0#32
  let c1_i32 : BitVec 32 := 1#32
  let arg9 : BitVec 32 := Scf.iv c0_i32 c1_i32 k0_t1
  let c0_i32_30 : BitVec 32 := 0#32
  ![1, arg9.toNat, 0]
def k0_off6 (v44 : BitVec 32) : Fin 2 → Nat :=
  let c0_i32_31 : BitVec 32 := 0#32
  ![v44.toNat, 0]

def k0_chk2 (v44 : BitVec 32) : Prop :=
  (∀ a, (k0_off6 v44) a + S1x1024.size a ≤ S40960x1024.size a)
theorem k0_off6_inb : ∀ (v44 : BitVec 32) (k0_hw2 : k0_chk2 v44), ∀ a, (k0_off6 v44) a + S1x1024.size a ≤ S40960x1024.size a := fun v44 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 3 → Nat :=
  let c0_i32_23 : BitVec 32 := 0#32
  let c0_i32_1 : BitVec 32 := 0#32
  let c1_i32_3 : BitVec 32 := 1#32
  let arg9 : BitVec 32 := Scf.iv c0_i32_1 c1_i32_3 k0_t2
  let c0_i32_24 : BitVec 32 := 0#32
  ![0, arg9.toNat, 0]
@[reducible] def k0_t3_loop : Scf.Loop 32 :=
  let c0_i32_5 : BitVec 32 := 0#32
  let c256_i32_6 : BitVec 32 := 256#32
  let v2 : BitVec 32 := Scalar.addi c0_i32_5 c256_i32_6
  let c1_i32_7 : BitVec 32 := 1#32
  ⟨c0_i32_5, v2, c1_i32_7⟩
def k0_off8 (k0_t3 : Fin k0_t3_loop.trips) : Fin 3 → Nat :=
  let c1_i32_23 : BitVec 32 := 1#32
  let c0_i32_5 : BitVec 32 := 0#32
  let c1_i32_7 : BitVec 32 := 1#32
  let arg9 : BitVec 32 := Scf.iv c0_i32_5 c1_i32_7 k0_t3
  let c0_i32_24 : BitVec 32 := 0#32
  ![1, arg9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32768 : Shape := ⟨1, ![32768]⟩
abbrev S16384x1024 : Shape := ⟨2, ![16384, 1024]⟩
abbrev S16384x2 : Shape := ⟨2, ![16384, 2]⟩
abbrev S1024 : Shape := ⟨1, ![1024]⟩
abbrev S40960x1024 : Shape := ⟨2, ![40960, 1024]⟩
abbrev S2x16384 : Shape := ⟨2, ![2, 16384]⟩
abbrev S_ : Shape := ⟨0, ![]⟩
abbrev S2x16384x1 : Shape := ⟨3, ![2, 16384, 1]⟩
abbrev S2x16384x1024 : Shape := ⟨3, ![2, 16384, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16384x1024, .f32⟩
  | .hbm, ⟨2, _⟩ => ⟨S16384x2, .f32⟩
  | .hbm, ⟨3, _⟩ => ⟨S1024, .f32⟩
  | .hbm, ⟨4, _⟩ => ⟨S40960x1024, .f32⟩
  | .hbm, ⟨5, _⟩ => ⟨S2x16384, .i32⟩
  | .hbm, ⟨6, _⟩ => ⟨S_, .i32⟩
  | .hbm, ⟨7, _⟩ => ⟨S2x16384, .i32⟩
  | .hbm, ⟨8, _⟩ => ⟨S2x16384, .i1⟩
  | .hbm, ⟨9, _⟩ => ⟨S_, .i32⟩
  | .hbm, ⟨10, _⟩ => ⟨S2x16384, .i32⟩
  | .hbm, ⟨11, _⟩ => ⟨S2x16384, .i32⟩
  | .hbm, ⟨12, _⟩ => ⟨S2x16384, .i32⟩
  | .hbm, ⟨13, _⟩ => ⟨S2x16384x1, .i32⟩
  | .hbm, ⟨14, _⟩ => ⟨S2x16384x1024, .f32⟩
  | .hbm, ⟨15, _⟩ => ⟨S2x16384, .f32⟩
  | .hbm, ⟨16, _⟩ => ⟨S2x16384x1, .f32⟩
  | .hbm, ⟨17, _⟩ => ⟨S2x16384x1024, .f32⟩
  | .hbm, ⟨18, _⟩ => ⟨S2x16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.Trunk.Spec.lean ====
/- One row of the mixer's output projection, the memory cross-attention and the router, as plain functions on extended
   reals. A row is a function of its column; a matrix a function of its row and column. Both programs are read to these. -/
module

public import Idealize.ShloMosaic.Lib.Pointwise

@[expose] public section

noncomputable section

namespace Cert.Trunk

open Idealize.ShloMosaic

/-- Row `r` of a matrix. -/
abbrev rowOf {M N : ℕ} (x : (⟨2, ![M, N]⟩ : Shape).Idx → EReal) (r : Fin M) : Fin N → EReal := fun c => x (ix2 r c)

/-- A matrix as a function of row and column. -/
abbrev mat {M N : ℕ} (x : (⟨2, ![M, N]⟩ : Shape).Idx → EReal) : Fin M → Fin N → EReal := fun r c => x (ix2 r c)

/-- The offsets of a whole block are zero. -/
theorem offsets_zero : (![0, 0] : Fin 2 → ℕ) = fun _ => 0 := by
  funext a
  fin_cases a <;> rfl

/-- Column `d` of head `h` among the 1024 columns: four heads of 256. -/
def col (h : Fin 4) (d : Fin 256) : Fin 1024 := ⟨256 * h.val + d.val, by omega⟩

/-- The head a column belongs to. -/
def headOf (c : Fin 1024) : Fin 4 := ⟨c.val / 256, by omega⟩

/-- The residual row plus the two mixer halves through the output projection (512 rows of `W` for each half). -/
def mixed (x : Fin 1024 → EReal) (a b : Fin 512 → EReal) (W : Fin 1024 → Fin 1024 → EReal) (c : Fin 1024) : EReal :=
  x c + ∑ k : Fin 512, a k * W ⟨k.val, by omega⟩ c + ∑ k : Fin 512, b k * W ⟨512 + k.val, by omega⟩ c

/-- A row divided by its root mean square (over 1024 columns, with the small constant), times the gain. -/
def normed (g x : Fin 1024 → EReal) (c : Fin 1024) : EReal :=
  x c * Ideal.rsqrt (Ideal.div (∑ k, x k * x k) (Ideal.ofBits .f32 0x44800000#32) + Ideal.ofBits .f32 0x358637BD#32) * g c

/-- A row times a matrix. -/
def times (h : Fin 1024 → EReal) (W : Fin 1024 → Fin 1024 → EReal) (c : Fin 1024) : EReal := ∑ k, h k * W k c

/-- Head `h`'s scaled score of a query row against memory row `j`. -/
def score (q : Fin 1024 → EReal) (K : Fin 256 → Fin 1024 → EReal) (h : Fin 4) (j : Fin 256) : EReal :=
  (∑ d : Fin 256, q (col h d) * K j (col h d)) * Ideal.ofBits .f32 0x3D800000#32

/-- The largest of 256 scores. -/
def top (s : Fin 256 → EReal) : EReal := Finset.fold max (Ideal.ofBits .f32 0xFF800000#32) s Finset.univ

/-- The softmax of 256 scores. -/
def soft (s : Fin 256 → EReal) (j : Fin 256) : EReal :=
  Ideal.div (Ideal.exp (s j - top s)) (∑ k, Ideal.exp (s k - top s))

/-- The attention's output row: in each column, the values of that column weighed by its head's softmax. -/
def attended (q : Fin 1024 → EReal) (K V : Fin 256 → Fin 1024 → EReal) (c : Fin 1024) : EReal :=
  ∑ j, soft (score q K (headOf c)) j * V j c

/-- The first result's row: the mixed row plus the attention through its output projection. -/
def out (x : Fin 1024 → EReal) (a b : Fin 512 → EReal) (Wm : Fin 1024 → Fin 1024 → EReal) (g : Fin 1024 → EReal)
    (Wq : Fin 1024 → Fin 1024 → EReal) (K V : Fin 256 → Fin 1024 → EReal) (Wo : Fin 1024 → Fin 1024 → EReal)
    (c : Fin 1024) : EReal :=
  mixed x a b Wm c + times (attended (times (normed g (mixed x a b Wm)) Wq) K V) Wo c

/-- One expert's router logit of a row. -/
def logit (w h : Fin 1024 → EReal) (β : EReal) : EReal := ∑ k, w k * h k + β

/-- The largest score is at least the value the search starts from. -/
theorem start_max_top (s : Fin 256 → EReal) : max (Ideal.ofBits .f32 0xFF800000#32) (top s) = top s :=
  max_eq_right ((Finset.le_fold_max _).2 (Or.inl le_rfl))

/-- Row `r` of block `t` in an array of 32 blocks of 512 rows. -/
def tok (t : Fin 32) (r : Fin 512) : Fin 16384 := ⟨512 * t.val + r.val, by omega⟩

/-- Token `s` of sequence `b` in the flat array of tokens. -/
def tokOf (b : Fin 4) (s : Fin 4096) : Fin 16384 := ⟨b.val * 4096 + s.val, by omega⟩

/-- Row `R` of the flat array is token `R mod 4096` of sequence `R / 4096`. -/
theorem tokOf_div_mod (R : Fin 16384) (h₁ : R.val / 4096 < 4) (h₂ : R.val % 4096 < 4096) :
    tokOf ⟨R.val / 4096, h₁⟩ ⟨R.val % 4096, h₂⟩ = R :=
  Fin.ext (by show R.val / 4096 * 4096 + R.val % 4096 = R.val; omega)

end Cert.Trunk

end
-- ==== Proof.Trunk.Block.lean ====
/- What the trunk's body computes on one block of 512 rows: its two row-shaped results and the block of logits, row by
   row the functions of Spec. -/
module

public import proofs.«01_k».proof.Proof.Gen.KernelIdeal.Frame
public import Idealize.ShloMosaic.Lib.Pipeline.Value
public import proofs.«01_k».proof.Proof.Trunk.Spec

@[expose] public section

noncomputable section

namespace Cert.Trunk

open Cert.KernelIdeal Cert.KernelIdeal.Gen Idealize.ShloMosaic

/-- The mixed rows of a block. -/
theorem pay3_apply (x0 : Vec Ideal S512x1024 .f32) (x1 x2 : Vec Ideal S512x512 .bf16) (x3 : Vec Ideal S1024x1024 .bf16)
    (r : Fin 512) (c : Fin 1024) :
    k0_pay3 (F := Ideal) (View.ld x0 r0_0) (View.ld x1 r0_1) (View.ld x3 r0_2) (View.ld x2 r0_1) (View.ld x3 r0_3) (ix2 r c)
      = mixed (rowOf x0 r) (rowOf x1 r) (rowOf x2 r) (mat x3) c := by
  pointwise [k0_pay3, r0_0, r0_1, r0_2, r0_3]
  rfl

/-- The queries of a block. -/
theorem pay4_apply (v0 : Vec Ideal S512x1024 .f32) (v1 : Vec Ideal S512x512 .bf16) (v2 : Vec Ideal S512x1024 .bf16)
    (v6 : Vec Ideal S512x512 .bf16) (v7 : Vec Ideal S512x1024 .bf16) (x4 : Vec Ideal S1x1024 .f32)
    (x5 : Vec Ideal S1024x1024 .bf16) (r : Fin 512) (c : Fin 1024) :
    k0_pay4 (F := Ideal) v0 v1 v2 v6 v7 (View.ld x4 r0_4) (View.ld x5 r0_5) (ix2 r c)
      = times (normed (rowOf x4 0) (rowOf (k0_pay3 (F := Ideal) v0 v1 v2 v6 v7) r)) (mat x5) c := by
  pointwise [k0_pay4, r0_4, r0_5]
  rfl

/-- One head's scaled scores: the query block's columns from `o` on against a block of keys. -/
def scores (o : ℕ) (hs : S512x1024.Slices ![0, o] S512x256) (q : FVec Ideal S512x1024 .bf16) (k : FVec Ideal S256x256 .bf16) :
    FVec Ideal S512x256 .f32 :=
  mulf (matmul dot_S512x256_S256x256_S512x256_1_1_0_0_n_n none (extractStridedSlice S512x256 ![0, o] q hs) k
    (constant S512x256 .f32 0x00000000#32)) (broadcast S512x256 (Scalar.ofBits .f32 0x3D800000#32))

/-- Those scores, read at a row and a memory row. -/
theorem scores_apply (o : ℕ) (ho : o + 256 ≤ 1024) (hs : S512x1024.Slices ![0, o] S512x256) (q : FVec Ideal S512x1024 .bf16) (k : FVec Ideal S256x256 .bf16)
    (r : Fin 512) (j : Fin 256) :
    scores o hs q k (ix2 r j)
      = (∑ d : Fin 256, q (ix2 r ⟨o + d.val, by omega⟩) * k (ix2 j d)) * Ideal.ofBits .f32 0x3D800000#32 := by
  pointwise [scores]

/-- One head's output: the softmax of the scores against a block of values. -/
theorem pay6_apply (s : FVec Ideal S512x256 .f32) (v : Vec Ideal S256x256 .bf16) (r : Fin 512) (d : Fin 256) :
    k0_pay6 (F := Ideal) s v (ix2 r d) = ∑ j, soft (rowOf s r) j * v (ix2 j d) := by
  pointwise [k0_pay6]
  rfl

/-- One head's output from the query rows and the whole key and value blocks: the attended row in that head's columns. -/
theorem head_apply (h : Fin 4) (o : ℕ) (ho : o = 256 * h.val) (hs : S512x1024.Slices ![0, o] S512x256)
    (q : FVec Ideal S512x1024 .bf16) (k v : Vec Ideal S256x256 .bf16) (x6 x7 : Vec Ideal S256x1024 .bf16)
    (hk : ∀ j d, k (ix2 j d) = x6 (ix2 j (col h d))) (hv : ∀ j d, v (ix2 j d) = x7 (ix2 j (col h d)))
    (r : Fin 512) (c : Fin 1024) (d : Fin 256) (hc : c.val = o + d.val) :
    k0_pay6 (F := Ideal) (scores o hs q k) v (ix2 r d) = attended (rowOf q r) (mat x6) (mat x7) c := by
  obtain rfl : c = col h d := Fin.ext (by rw [hc, ho]; rfl)
  subst ho
  have e : rowOf (scores (256 * h.val) hs q k) r = score (rowOf q r) (mat x6) h := by
    funext j
    show scores (256 * h.val) hs q k (ix2 r j) = _
    rw [scores_apply _ (by omega)]
    simp only [hk]
    rfl
  have eh : headOf (col h d) = h := by
    apply Fin.ext
    show (256 * h.val + d.val) / 256 = h.val
    omega
  rw [pay6_apply, e]
  unfold attended
  rw [eh]
  simp only [hv]

/-- The keys or values of head 0 as the body loads them. -/
theorem ld_0 (x : Vec Ideal S256x1024 .bf16) (j d : Fin 256) : View.ld x r0_6 (ix2 j d) = x (ix2 j (col 0 d)) := by
  pointwise [r0_6]
  exact congrArg (fun c => x (ix2 j c)) (Fin.ext (by simp [col]))

/-- The keys or values of head 1 as the body loads them. -/
theorem ld_1 (x : Vec Ideal S256x1024 .bf16) (j d : Fin 256) : View.ld x r0_7 (ix2 j d) = x (ix2 j (col 1 d)) := by
  pointwise [r0_7]
  exact congrArg (fun c => x (ix2 j c)) (Fin.ext (by simp [col]))

/-- The keys or values of head 2 as the body loads them. -/
theorem ld_2 (x : Vec Ideal S256x1024 .bf16) (j d : Fin 256) : View.ld x r0_8 (ix2 j d) = x (ix2 j (col 2 d)) := by
  pointwise [r0_8]
  exact congrArg (fun c => x (ix2 j c)) (Fin.ext (by simp [col]))

/-- The keys or values of head 3 as the body loads them. -/
theorem ld_3 (x : Vec Ideal S256x1024 .bf16) (j d : Fin 256) : View.ld x r0_9 (ix2 j d) = x (ix2 j (col 3 d)) := by
  pointwise [r0_9]
  exact congrArg (fun c => x (ix2 j c)) (Fin.ext (by simp [col]))

/-- The first result of a block: each row is the row function of the block's rows and the whole weights. -/
theorem pay9_apply (v10 : FVec Ideal S512x1024 .f32) (v29 : FVec Ideal S512x1024 .bf16) (x6 x7 : Vec Ideal S256x1024 .bf16)
    (x8 : Vec Ideal S1024x1024 .bf16) (r : Fin 512) (c : Fin 1024) :
    k0_pay9 (F := Ideal) v10 v29
        (k0_pay6 (scores 0 slices_S512x1024_o0_0_S512x256 v29 (View.ld x6 r0_6)) (View.ld x7 r0_6))
        (k0_pay7 v29 (View.ld x6 r0_7) (View.ld x7 r0_7)) (k0_pay8 v29 (View.ld x6 r0_8)) (View.ld x7 r0_8)
        (View.ld x6 r0_9) (View.ld x7 r0_9) (View.ld x8 r0_5) (ix2 r c)
      = v10 (ix2 r c) + times (attended (rowOf v29 r) (mat x6) (mat x7)) (mat x8) c := by
  show addf v10 (matmul dot_S512x1024_S1024x1024_S512x1024_1_0_0_1_n_n none
      (concatenate S512x1024 1 [
        ⟨S512x256, k0_pay6 (scores 0 slices_S512x1024_o0_0_S512x256 v29 (View.ld x6 r0_6)) (View.ld x7 r0_6)⟩,
        ⟨S512x256, k0_pay6 (scores 256 slices_S512x1024_o0_256_S512x256 v29 (View.ld x6 r0_7)) (View.ld x7 r0_7)⟩,
        ⟨S512x256, k0_pay6 (scores 512 slices_S512x1024_o0_512_S512x256 v29 (View.ld x6 r0_8)) (View.ld x7 r0_8)⟩,
        ⟨S512x256, k0_pay6 (scores 768 slices_S512x1024_o0_768_S512x256 v29 (View.ld x6 r0_9)) (View.ld x7 r0_9)⟩]
        concatenates_S512x256_S512x256_S512x256_S512x256_S512x1024_d1 : FVec Ideal S512x1024 .bf16)
      (shapeCast S1024x1024 (View.ld x8 r0_5) shapeCasts_S1024x1024_S1024x1024 : FVec Ideal S1024x1024 .bf16)
      (constant S512x1024 .f32 0x00000000#32)) (ix2 r c) = _
  pointwise [r0_5]
  refine congrArg (v10 (ix2 r c) + ·) (Finset.sum_congr rfl fun k _ => congrArg (· * x8 (ix2 k c)) ?_)
  by_cases h0 : k.val < 256
  · rw [dif_pos h0]
    exact head_apply 0 0 (by decide) slices_S512x1024_o0_0_S512x256 v29 (View.ld x6 r0_6) (View.ld x7 r0_6) x6 x7
      (ld_0 x6) (ld_0 x7) r k ⟨k.val, by omega⟩ (by show k.val = 0 + (k.val); omega)
  rw [dif_neg h0]
  by_cases h1 : k.val - 256 < 256
  · rw [dif_pos h1]
    exact head_apply 1 256 (by decide) slices_S512x1024_o0_256_S512x256 v29 (View.ld x6 r0_7) (View.ld x7 r0_7) x6 x7
      (ld_1 x6) (ld_1 x7) r k ⟨k.val - 256, by omega⟩ (by show k.val = 256 + (k.val - 256); omega)
  rw [dif_neg h1]
  by_cases h2 : k.val - 256 - 256 < 256
  · rw [dif_pos h2]
    exact head_apply 2 512 (by decide) slices_S512x1024_o0_512_S512x256 v29 (View.ld x6 r0_8) (View.ld x7 r0_8) x6 x7
      (ld_2 x6) (ld_2 x7) r k ⟨k.val - 256 - 256, by omega⟩ (by show k.val = 512 + (k.val - 256 - 256); omega)
  rw [dif_neg h2]
  exact head_apply 3 768 (by decide) slices_S512x1024_o0_768_S512x256 v29 (View.ld x6 r0_9) (View.ld x7 r0_9) x6 x7
    (ld_3 x6) (ld_3 x7) r k ⟨k.val - 256 - 256 - 256, by omega⟩ (by show k.val = 768 + (k.val - 256 - 256 - 256); omega)

variable (x0 : Vec Ideal S512x1024 .f32) (x1 x2 : Vec Ideal S512x512 .bf16) (x3 : Vec Ideal S1024x1024 .bf16)
  (x4 : Vec Ideal S1x1024 .f32) (x5 : Vec Ideal S1024x1024 .bf16) (x6 x7 : Vec Ideal S256x1024 .bf16)
  (x8 : Vec Ideal S1024x1024 .bf16) (x9 : Vec Ideal S1x1024 .f32) (x10 : Vec Ideal S128x1024 .bf16) (x11 : Vec Ideal S128x1 .f32)

/-- Row `r` of the first result of a block. -/
abbrev outRow (r : Fin 512) : Fin 1024 → EReal :=
  out (rowOf x0 r) (rowOf x1 r) (rowOf x2 r) (mat x3) (rowOf x4 0) (mat x5) (mat x6) (mat x7) (mat x8)

/-- The value stored to the first result and read again by the two others. -/
theorem pay17_apply (r : Fin 512) (c : Fin 1024) :
    k0_pay17 (F := Ideal) x0 x1 x2 x3 x4 x5 x6 x7 x8 x9 x10 x11 (ix2 r c) = outRow x0 x1 x2 x3 x4 x5 x6 x7 x8 r c := by
  have e3 : rowOf (k0_pay12 (F := Ideal) x0 x1 x2 x3 x4 x5 x6 x7 x8 x9 x10 x11) r = mixed (rowOf x0 r) (rowOf x1 r) (rowOf x2 r) (mat x3) :=
    funext fun c => pay3_apply x0 x1 x2 x3 r c
  have e4 : rowOf (k0_pay13 (F := Ideal) x0 x1 x2 x3 x4 x5 x6 x7 x8 x9 x10 x11) r
      = times (normed (rowOf x4 0) (mixed (rowOf x0 r) (rowOf x1 r) (rowOf x2 r) (mat x3))) (mat x5) := by
    rw [← e3]
    exact funext fun c => pay4_apply _ _ _ _ _ x4 x5 r c
  refine (pay9_apply (k0_pay12 (F := Ideal) x0 x1 x2 x3 x4 x5 x6 x7 x8 x9 x10 x11)
    (k0_pay13 (F := Ideal) x0 x1 x2 x3 x4 x5 x6 x7 x8 x9 x10 x11) x6 x7 x8 r c).trans ?_
  rw [e4]
  exact congrArg (· + _) (congrFun e3 c)

/-- The first result of a block. -/
theorem out0_12_apply (r : Fin 512) (c : Fin 1024) :
    out0_12 (F := Ideal) x0 x1 x2 x3 x4 x5 x6 x7 x8 x9 x10 x11 (ix2 r c) = outRow x0 x1 x2 x3 x4 x5 x6 x7 x8 r c := by
  refine Eq.trans (congrFun ?_ _) (pay17_apply x0 x1 x2 x3 x4 x5 x6 x7 x8 x9 x10 x11 r c)
  exact View.canon_unit_zero offsets_zero _ _

/-- The second result of a block: the first one's rows normalized. -/
theorem pay1_apply (r : Fin 512) (c : Fin 1024) :
    k0_pay1 (F := Ideal) (k0_pay17 x0 x1 x2 x3 x4 x5 x6 x7 x8 x9 x10 x11) (k0_pay18 x0 x1 x2 x3 x4 x5 x6 x7 x8 x9 x10 x11)
        (k0_pay19 x0 x1 x2 x3 x4 x5 x6 x7 x8 x9 x10 x11) (Scalar.ofBits .f32 0x44800000#32) (ix2 r c)
      = normed (rowOf x9 0) (outRow x0 x1 x2 x3 x4 x5 x6 x7 x8 r) c := by
  have e : ∀ k, k0_pay9 (F := Ideal) (k0_pay12 (F := Ideal) x0 x1 x2 x3 x4 x5 x6 x7 x8 x9 x10 x11)
      (k0_pay13 (F := Ideal) x0 x1 x2 x3 x4 x5 x6 x7 x8 x9 x10 x11) (k0_pay14 (F := Ideal) x0 x1 x2 x3 x4 x5 x6 x7 x8 x9 x10 x11)
      (k0_pay15 (F := Ideal) x0 x1 x2 x3 x4 x5 x6 x7 x8 x9 x10 x11) (k0_pay16 (F := Ideal) x0 x1 x2 x3 x4 x5 x6 x7 x8 x9 x10 x11)
      (View.ld x7 r0_8) (View.ld x6 r0_9) (View.ld x7 r0_9) (View.ld x8 r0_5) (ix2 r k) = outRow x0 x1 x2 x3 x4 x5 x6 x7 x8 r k :=
    fun k => pay17_apply x0 x1 x2 x3 x4 x5 x6 x7 x8 x9 x10 x11 r k
  pointwise [k0_pay1, k0_pay17, k0_pay18, k0_pay19, k0_pay10, k0_pay11, r0_4, e]
  rfl

/-- The second result of a block is that. -/
theorem out0_13_apply (r : Fin 512) (c : Fin 1024) :
    out0_13 (F := Ideal) x0 x1 x2 x3 x4 x5 x6 x7 x8 x9 x10 x11 (ix2 r c)
      = normed (rowOf x9 0) (outRow x0 x1 x2 x3 x4 x5 x6 x7 x8 r) c := by
  refine Eq.trans (congrFun ?_ _) (pay1_apply x0 x1 x2 x3 x4 x5 x6 x7 x8 x9 x10 x11 r c)
  exact View.canon_unit_zero offsets_zero _ _

/-- The third result of a block: one expert's logit of one row. -/
theorem out0_14_apply (e : Fin 128) (r : Fin 512) :
    out0_14 (F := Ideal) x0 x1 x2 x3 x4 x5 x6 x7 x8 x9 x10 x11 (ix2 e r)
      = logit (rowOf x10 e) (normed (rowOf x9 0) (outRow x0 x1 x2 x3 x4 x5 x6 x7 x8 r)) (x11 (ix2 e 0)) := by
  have h1 := pay1_apply x0 x1 x2 x3 x4 x5 x6 x7 x8 x9 x10 x11 r
  refine Eq.trans (congrFun (View.canon_unit_zero offsets_zero _ _) _) ?_
  pointwise [k0_pay2, r0_10, r0_11]
  exact congrArg (· + _) (Finset.sum_congr rfl fun k _ => congrArg (x10 (ix2 e k) * ·) (h1 k))

end Cert.Trunk

end
-- ==== Proof.Trunk.Array.lean ====
/- The trunk's three results as whole arrays: every block a grid point writes is the functions of Spec on the rows of that
   block, and the blocks fill the arrays. -/
module

public import proofs.«01_k».proof.Proof.Gen.KernelIdeal.Value
public import Idealize.ShloMosaic.Lib.Pipeline.ValueKit
public import proofs.«01_k».proof.Proof.Trunk.Block

@[expose] public section

set_option maxRecDepth 16384

noncomputable section

namespace Cert.Trunk

open Cert.KernelIdeal Cert.KernelIdeal.Gen Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-! ## What the region finds in the arrays the host prepared -/

/-- The output projection's weights. -/
theorem V_v0 (i : S1024x1024.Idx) : (V m c main_v0 : S1024x1024.Idx → EReal) i = m ((c : Thread nD τ).loc main_arg3) i := by
  have : V m c main_v0 = (fun i => m ((c : Thread nD τ).loc main_arg3) i : S1024x1024.Idx → EReal) := by
    simp only [V, hostOps0, List.flatten_cons, List.flatten_nil, List.append_nil, List.cons_append, List.nil_append]
    after_results
    rfl
  rw [this]

/-- The query weights. -/
theorem V_v2 (i : S1024x1024.Idx) : (V m c main_v2 : S1024x1024.Idx → EReal) i = m ((c : Thread nD τ).loc main_arg5) i := by
  have : V m c main_v2 = (fun i => m ((c : Thread nD τ).loc main_arg5) i : S1024x1024.Idx → EReal) := by
    simp only [V, hostOps0, List.flatten_cons, List.flatten_nil, List.append_nil, List.cons_append, List.nil_append]
    after_results
    rfl
  rw [this]

/-- The attention's output weights. -/
theorem V_v3 (i : S1024x1024.Idx) : (V m c main_v3 : S1024x1024.Idx → EReal) i = m ((c : Thread nD τ).loc main_arg7) i := by
  have : V m c main_v3 = (fun i => m ((c : Thread nD τ).loc main_arg7) i : S1024x1024.Idx → EReal) := by
    simp only [V, hostOps0, List.flatten_cons, List.flatten_nil, List.append_nil, List.cons_append, List.nil_append]
    after_results
    rfl
  rw [this]

/-- The first gain, as a row. -/
theorem V_v1 (k : Fin 1024) : (V m c main_v1 : S1x1024.Idx → EReal) (ix2 0 k) = m ((c : Thread nD τ).loc main_arg4) (ix1 k) := by
  have : V m c main_v1 = (shapeCast S1x1024 (m ((c : Thread nD τ).loc main_arg4)) shapeCasts_S1024_S1x1024 : S1x1024.Idx → EReal) := by
    simp only [V, hostOps0, List.flatten_cons, List.flatten_nil, List.append_nil, List.cons_append, List.nil_append]
    after_results
    rfl
  rw [this]
  pointwise []

/-- The second gain, as a row. -/
theorem V_v4 (k : Fin 1024) : (V m c main_v4 : S1x1024.Idx → EReal) (ix2 0 k) = m ((c : Thread nD τ).loc main_arg8) (ix1 k) := by
  have : V m c main_v4 = (shapeCast S1x1024 (m ((c : Thread nD τ).loc main_arg8)) shapeCasts_S1024_S1x1024 : S1x1024.Idx → EReal) := by
    simp only [V, hostOps0, List.flatten_cons, List.flatten_nil, List.append_nil, List.cons_append, List.nil_append]
    after_results
    rfl
  rw [this]
  pointwise []

/-! ## Where the blocks lie -/

/-- The block window 0 is at, at each grid point. -/
theorem index_0 : ∀ t : Fin cfg0.N, win0_0.index t = ![t.val, 0] := (by decide +kernel : ∀ t : Fin grid0.N, _)
/-- The block window 1 is at, at each grid point. -/
theorem index_1 : ∀ t : Fin cfg0.N, win0_1.index t = ![t.val, 0] := (by decide +kernel : ∀ t : Fin grid0.N, _)
/-- The block window 2 is at, at each grid point. -/
theorem index_2 : ∀ t : Fin cfg0.N, win0_2.index t = ![t.val, 0] := (by decide +kernel : ∀ t : Fin grid0.N, _)
/-- The block window 3 is at, at each grid point. -/
theorem index_3 : ∀ t : Fin cfg0.N, win0_3.index t = ![0, 0] := (by decide +kernel : ∀ t : Fin grid0.N, _)
/-- The block window 4 is at, at each grid point. -/
theorem index_4 : ∀ t : Fin cfg0.N, win0_4.index t = ![0, 0] := (by decide +kernel : ∀ t : Fin grid0.N, _)
/-- The block window 5 is at, at each grid point. -/
theorem index_5 : ∀ t : Fin cfg0.N, win0_5.index t = ![0, 0] := (by decide +kernel : ∀ t : Fin grid0.N, _)
/-- The block window 6 is at, at each grid point. -/
theorem index_6 : ∀ t : Fin cfg0.N, win0_6.index t = ![t.val / 8, 0] := (by decide +kernel : ∀ t : Fin grid0.N, _)
/-- The block window 7 is at, at each grid point. -/
theorem index_7 : ∀ t : Fin cfg0.N, win0_7.index t = ![t.val / 8, 1] := (by decide +kernel : ∀ t : Fin grid0.N, _)
/-- The block window 8 is at, at each grid point. -/
theorem index_8 : ∀ t : Fin cfg0.N, win0_8.index t = ![0, 0] := (by decide +kernel : ∀ t : Fin grid0.N, _)
/-- The block window 9 is at, at each grid point. -/
theorem index_9 : ∀ t : Fin cfg0.N, win0_9.index t = ![0, 0] := (by decide +kernel : ∀ t : Fin grid0.N, _)
/-- The block window 10 is at, at each grid point. -/
theorem index_10 : ∀ t : Fin cfg0.N, win0_10.index t = ![0, 0] := (by decide +kernel : ∀ t : Fin grid0.N, _)
/-- The block window 11 is at, at each grid point. -/
theorem index_11 : ∀ t : Fin cfg0.N, win0_11.index t = ![0, 0] := (by decide +kernel : ∀ t : Fin grid0.N, _)
/-- The block window 12 is at, at each grid point. -/
theorem index_12 : ∀ t : Fin cfg0.N, win0_12.index t = ![t.val, 0] := (by decide +kernel : ∀ t : Fin grid0.N, _)
/-- The block window 13 is at, at each grid point. -/
theorem index_13 : ∀ t : Fin cfg0.N, win0_13.index t = ![t.val, 0] := (by decide +kernel : ∀ t : Fin grid0.N, _)
/-- The block window 14 is at, at each grid point. -/
theorem index_14 : ∀ t : Fin cfg0.N, win0_14.index t = ![0, t.val] := (by decide +kernel : ∀ t : Fin grid0.N, _)

/-- Memory row `j` that token `R` attends to: each sequence of 4096 tokens has 256 of them. -/
def memRow (R : Fin 16384) (j : Fin 256) : Fin 1024 := ⟨256 * (R.val / 4096) + j.val, by omega⟩

/-- Column `k` of the keys. -/
def keyCol (k : Fin 1024) : Fin 2048 := ⟨k.val, by omega⟩

/-- Column `k` of the values. -/
def valCol (k : Fin 1024) : Fin 2048 := ⟨1024 + k.val, by omega⟩

/-- The residual rows of block `t`. -/
theorem blk_0 (t : Fin cfg0.N) (r : Fin 512) (k : Fin 1024) :
    (iblk m c 0 t : S512x1024.Idx → EReal) (ix2 r k) = m ((c : Thread nD τ).loc main_arg0) (ix2 (tok t r) k) := by
  blk_simp [iblk]
  rw [V_main_arg0]
  congr 1
  blk_ext [index_0, tok]

/-- The convolution rows of block `t`. -/
theorem blk_1 (t : Fin cfg0.N) (r : Fin 512) (k : Fin 512) :
    (iblk m c 1 t : S512x512.Idx → EReal) (ix2 r k) = m ((c : Thread nD τ).loc main_arg1) (ix2 (tok t r) k) := by
  blk_simp [iblk]
  rw [V_main_arg1]
  congr 1
  blk_ext [index_1, tok]

/-- The Fourier rows of block `t`. -/
theorem blk_2 (t : Fin cfg0.N) (r : Fin 512) (k : Fin 512) :
    (iblk m c 2 t : S512x512.Idx → EReal) (ix2 r k) = m ((c : Thread nD τ).loc main_arg2) (ix2 (tok t r) k) := by
  blk_simp [iblk]
  rw [V_main_arg2]
  congr 1
  blk_ext [index_2, tok]

/-- Window 3 holds its whole matrix at every point. -/
theorem blk_3 (t : Fin cfg0.N) (r k : Fin 1024) :
    (iblk m c 3 t : S1024x1024.Idx → EReal) (ix2 r k) = m ((c : Thread nD τ).loc main_arg3) (ix2 r k) := by
  blk_simp [iblk]
  rw [V_v0]
  congr 1
  blk_ext [index_3]

/-- Window 5 holds its whole matrix at every point. -/
theorem blk_5 (t : Fin cfg0.N) (r k : Fin 1024) :
    (iblk m c 5 t : S1024x1024.Idx → EReal) (ix2 r k) = m ((c : Thread nD τ).loc main_arg5) (ix2 r k) := by
  blk_simp [iblk]
  rw [V_v2]
  congr 1
  blk_ext [index_5]

/-- Window 8 holds its whole matrix at every point. -/
theorem blk_8 (t : Fin cfg0.N) (r k : Fin 1024) :
    (iblk m c 8 t : S1024x1024.Idx → EReal) (ix2 r k) = m ((c : Thread nD τ).loc main_arg7) (ix2 r k) := by
  blk_simp [iblk]
  rw [V_v3]
  congr 1
  blk_ext [index_8]

/-- Window 4 holds its whole row of gains at every point. -/
theorem blk_4 (t : Fin cfg0.N) (k : Fin 1024) :
    (iblk m c 4 t : S1x1024.Idx → EReal) (ix2 0 k) = m ((c : Thread nD τ).loc main_arg4) (ix1 k) := by
  refine Eq.trans ?_ (V_v1 m c k)
  blk_simp [iblk]
  congr 1
  blk_ext [index_4]

/-- Window 9 holds its whole row of gains at every point. -/
theorem blk_9 (t : Fin cfg0.N) (k : Fin 1024) :
    (iblk m c 9 t : S1x1024.Idx → EReal) (ix2 0 k) = m ((c : Thread nD τ).loc main_arg8) (ix1 k) := by
  refine Eq.trans ?_ (V_v4 m c k)
  blk_simp [iblk]
  congr 1
  blk_ext [index_9]

/-- The keys of block `t` are those of the sequence its rows belong to. -/
theorem blk_6 (t : Fin cfg0.N) (r : Fin 512) (j : Fin 256) (k : Fin 1024) :
    (iblk m c 6 t : S256x1024.Idx → EReal) (ix2 j k) = m ((c : Thread nD τ).loc main_arg6) (ix2 (memRow (tok t r) j) (keyCol k)) := by
  blk_simp [iblk]
  rw [V_main_arg6]
  congr 1
  blk_ext [index_6, tok, memRow, keyCol]

/-- The values of block `t` are those of the sequence its rows belong to. -/
theorem blk_7 (t : Fin cfg0.N) (r : Fin 512) (j : Fin 256) (k : Fin 1024) :
    (iblk m c 7 t : S256x1024.Idx → EReal) (ix2 j k) = m ((c : Thread nD τ).loc main_arg6) (ix2 (memRow (tok t r) j) (valCol k)) := by
  blk_simp [iblk]
  rw [V_main_arg6]
  congr 1
  blk_ext [index_7, tok, memRow, valCol]

/-- The router's weights, whole at every point. -/
theorem blk_10 (t : Fin cfg0.N) (e : Fin 128) (k : Fin 1024) :
    (iblk m c 10 t : S128x1024.Idx → EReal) (ix2 e k) = m ((c : Thread nD τ).loc main_arg9) (ix2 e k) := by
  blk_simp [iblk]
  rw [V_main_arg9]
  congr 1
  blk_ext [index_10]

/-- The router's biases, whole at every point. -/
theorem blk_11 (t : Fin cfg0.N) (e : Fin 128) :
    (iblk m c 11 t : S128x1.Idx → EReal) (ix2 e 0) = m ((c : Thread nD τ).loc main_arg10) (ix2 e 0) := by
  blk_simp [iblk]
  rw [V_main_arg10]
  congr 1
  blk_ext [index_11]

/-! ## The rows and the arrays -/

section Rows

variable (x : S16384x1024.Idx → EReal) (a b : S16384x512.Idx → EReal) (Wm : S1024x1024.Idx → EReal) (g : S1024.Idx → EReal)
  (Wq : S1024x1024.Idx → EReal) (kv : S1024x2048.Idx → EReal) (Wo : S1024x1024.Idx → EReal) (gf : S1024.Idx → EReal)
  (Wr : S128x1024.Idx → EReal) (β : S128x1.Idx → EReal)

/-- Token `R` after the mixer's output projection and the attention to its sequence's memory. -/
def tokOut (R : Fin 16384) : Fin 1024 → EReal :=
  out (rowOf x R) (rowOf a R) (rowOf b R) (mat Wm) (fun k => g (ix1 k)) (mat Wq) (fun j k => kv (ix2 (memRow R j) (keyCol k)))
    (fun j k => kv (ix2 (memRow R j) (valCol k))) (mat Wo)

/-- Token `R` normalised for the experts. -/
def tokHidden (R : Fin 16384) : Fin 1024 → EReal := normed (fun k => gf (ix1 k)) (tokOut x a b Wm g Wq kv Wo R)

/-- The router's logit of token `R` for expert `e`. -/
def tokLogit (e : Fin 128) (R : Fin 16384) : EReal :=
  logit (rowOf Wr e) (tokHidden x a b Wm g Wq kv Wo gf R) (β (ix2 e 0))

end Rows

/-- The row a block's body computes, from the blocks of point `t`, is the row of its token. -/
theorem outRow_blk (t : Fin cfg0.N) (r : Fin 512) :
    outRow (iblk m c 0 t) (iblk m c 1 t) (iblk m c 2 t) (iblk m c 3 t) (iblk m c 4 t) (iblk m c 5 t) (iblk m c 6 t) (iblk m c 7 t)
        (iblk m c 8 t) r
      = tokOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (tok t r) := by
  have h0 : rowOf (iblk m c 0 t) r = rowOf (m ((c : Thread nD τ).loc main_arg0)) (tok t r) := funext fun k => blk_0 m c t r k
  have h1 : rowOf (iblk m c 1 t) r = rowOf (m ((c : Thread nD τ).loc main_arg1)) (tok t r) := funext fun k => blk_1 m c t r k
  have h2 : rowOf (iblk m c 2 t) r = rowOf (m ((c : Thread nD τ).loc main_arg2)) (tok t r) := funext fun k => blk_2 m c t r k
  have h3 : mat (iblk m c 3 t) = mat (m ((c : Thread nD τ).loc main_arg3)) := funext fun i => funext fun k => blk_3 m c t i k
  have h4 : rowOf (iblk m c 4 t) 0 = fun k => m ((c : Thread nD τ).loc main_arg4) (ix1 k) := funext fun k => blk_4 m c t k
  have h5 : mat (iblk m c 5 t) = mat (m ((c : Thread nD τ).loc main_arg5)) := funext fun i => funext fun k => blk_5 m c t i k
  have h6 : mat (iblk m c 6 t) = fun j k => m ((c : Thread nD τ).loc main_arg6) (ix2 (memRow (tok t r) j) (keyCol k)) :=
    funext fun j => funext fun k => blk_6 m c t r j k
  have h7 : mat (iblk m c 7 t) = fun j k => m ((c : Thread nD τ).loc main_arg6) (ix2 (memRow (tok t r) j) (valCol k)) :=
    funext fun j => funext fun k => blk_7 m c t r j k
  have h8 : mat (iblk m c 8 t) = mat (m ((c : Thread nD τ).loc main_arg7)) := funext fun i => funext fun k => blk_8 m c t i k
  unfold outRow tokOut
  rw [h0, h1, h2, h3, h4, h5, h6, h7, h8]

/-- The first result's block at point `t`. -/
theorem blkOut_12 (t : Fin cfg0.N) (r : Fin 512) (k : Fin 1024) :
    out0_12
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
        (ix2 r k)
      = tokOut
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (tok t r) k := by
  rw [out0_12_apply, outRow_blk]

/-- The second result's block at point `t`. -/
theorem blkOut_13 (t : Fin cfg0.N) (r : Fin 512) (k : Fin 1024) :
    out0_13
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
        (ix2 r k)
      = tokHidden
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8))
        (tok t r) k := by
  have h9 : rowOf (iblk m c 9 t) 0 = fun k => m ((c : Thread nD τ).loc main_arg8) (ix1 k) := funext fun k => blk_9 m c t k
  rw [out0_13_apply, outRow_blk]
  unfold tokHidden
  rw [h9]

/-- The third result's block at point `t`. -/
theorem blkOut_14 (t : Fin cfg0.N) (e : Fin 128) (r : Fin 512) :
    out0_14
        (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t)
        (ix2 e r)
      = tokLogit
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10))
        e (tok t r) := by
  have h9 : rowOf (iblk m c 9 t) 0 = fun k => m ((c : Thread nD τ).loc main_arg8) (ix1 k) := funext fun k => blk_9 m c t k
  have h10 : rowOf (iblk m c 10 t) e = rowOf (m ((c : Thread nD τ).loc main_arg9)) e := funext fun k => blk_10 m c t e k
  have h11 := blk_11 m c t e
  rw [out0_14_apply, outRow_blk]
  unfold tokLogit tokHidden
  rw [h9, h10, h11]

/-- The first result after the run. -/
theorem arr_12 : (dats m 0 c).arrAt 12 cfg0.N = (fun i : S16384x1024.Idx => tokOut
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (i 0) (i 1)) := by
  refine (dats m 0 c).arrAt_eq_of_covers 12 _ (by decide +kernel) fun t _ y => ?_
  blk_simp
  rw [after0_12]
  refine (congrArg _ (ix2_eta (n0 := 512) (n1 := 1024) y).symm).trans ((blkOut_12 m c t (y 0) (y 1)).trans ?_)
  have e0 : tok t (y 0) = ((win0_12.blk t).view.emb y : S16384x1024.Idx) 0 := Fin.ext (by blk_simp [index_12, tok]; exact congrArg (· + _) (Nat.mul_comm _ _))
  have e1 : y 1 = ((win0_12.blk t).view.emb y : S16384x1024.Idx) 1 := Fin.ext (by blk_simp [index_12, tok])
  exact congrArg₂ (tokOut
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))) e0 e1

/-- The second result after the run. -/
theorem arr_13 : (dats m 0 c).arrAt 13 cfg0.N = (fun i : S16384x1024.Idx => tokHidden
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8))
        (i 0) (i 1)) := by
  refine (dats m 0 c).arrAt_eq_of_covers 13 _ (by decide +kernel) fun t _ y => ?_
  blk_simp
  rw [after0_13]
  refine (congrArg _ (ix2_eta (n0 := 512) (n1 := 1024) y).symm).trans ((blkOut_13 m c t (y 0) (y 1)).trans ?_)
  have e0 : tok t (y 0) = ((win0_13.blk t).view.emb y : S16384x1024.Idx) 0 := Fin.ext (by blk_simp [index_13, tok]; exact congrArg (· + _) (Nat.mul_comm _ _))
  have e1 : y 1 = ((win0_13.blk t).view.emb y : S16384x1024.Idx) 1 := Fin.ext (by blk_simp [index_13, tok])
  exact congrArg₂ (tokHidden
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8))) e0 e1

/-- The third result after the run. -/
theorem arr_14 : (dats m 0 c).arrAt 14 cfg0.N = (fun i : S128x16384.Idx => tokLogit
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10))
        (i 0) (i 1)) := by
  refine (dats m 0 c).arrAt_eq_of_covers 14 _ (by decide +kernel) fun t _ y => ?_
  blk_simp
  rw [after0_14]
  refine (congrArg _ (ix2_eta (n0 := 128) (n1 := 512) y).symm).trans ((blkOut_14 m c t (y 0) (y 1)).trans ?_)
  have e0 : y 0 = ((win0_14.blk t).view.emb y : S128x16384.Idx) 0 := Fin.ext (by blk_simp [index_14, tok])
  have e1 : tok t (y 1) = ((win0_14.blk t).view.emb y : S128x16384.Idx) 1 := Fin.ext (by blk_simp [index_14, tok]; exact congrArg (· + _) (Nat.mul_comm _ _))
  exact congrArg₂ (tokLogit
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10))) e0 e1

end Cert.Trunk
-- ==== Proof.Trunk.Ref.lean ====
/- The plain program's values, row by row: each named value is the function of Spec that the kernel's blocks compute. -/
module

public import proofs.«01_k».proof.Proof.Gen.ReferenceIdeal.Read
public import Idealize.ShloMosaic.Lib.Pointwise
public import proofs.«01_k».proof.Proof.Trunk.Array

@[expose] public section

noncomputable section

namespace Cert.Trunk.Ref

open Cert.ReferenceIdeal Cert.ReferenceIdeal.Gen Idealize.ShloMosaic Cert.Trunk
open Cert.ReferenceIdeal.Read

/-- A reduction to the maximum along the last of four axes. -/
theorem reduce_max_last {n0 n1 n2 n3 : ℕ} {u : Shape} (y : FVec Ideal (⟨4, ![n0, n1, n2, n3]⟩ : Shape) .f32) (init : u.Idx → Ideal .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf y init h hu (ix3 a b c)
      = Finset.fold max (init (Shape.Idx.first hu)) (fun k : Fin n3 => (y (ix4 a b c k) : EReal)) Finset.univ := by
  rw [Host.reduce_eq_fold, Shape.ReducesTo.fold_fiber_r4_a3]
  rfl

/-- The maximum of two extended reals, as the plain program writes it. -/
theorem maximumf_eq (a b : EReal) : FloatOps.maximumf (F := Ideal) (φ := .f32) a b = max a b := rfl

section Rows

variable (x0 : (⟨S16384x1024, .f32⟩ : BufTy).Contents (Elt Ideal)) (x1 x2 : (⟨S16384x512, .bf16⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024x2048, .bf16⟩ : BufTy).Contents (Elt Ideal))
  (x7 : (⟨S1024x1024, .f32⟩ : BufTy).Contents (Elt Ideal)) (x8 : (⟨S1024, .f32⟩ : BufTy).Contents (Elt Ideal))
  (x9 : (⟨S128x1024, .bf16⟩ : BufTy).Contents (Elt Ideal)) (x10 : (⟨S128x1, .f32⟩ : BufTy).Contents (Elt Ideal))
  (b : Fin 4) (s : Fin 4096)

/-- The two mixer halves side by side. -/
theorem v5_apply (c : Fin 1024) : val_main_v5 (F := Ideal) x1 x2 (ix3 b s c)
    = if h : c.val < 512 then x1 (ix2 (tokOf b s) ⟨c.val, h⟩) else x2 (ix2 (tokOf b s) ⟨c.val - 512, by omega⟩) := by
  pointwise [val_main_v5, val_main_v2, val_main_v4, val_main_v1, val_main_v3]
  rfl

/-- The mixed row. -/
theorem v7_apply (c : Fin 1024) : val_main_v7 (F := Ideal) x0 x1 x2 x3 (ix3 b s c)
    = mixed (rowOf x0 (tokOf b s)) (rowOf x1 (tokOf b s)) (rowOf x2 (tokOf b s)) (mat x3) c := by
  pointwise [val_main_v7, val_main_v6, val_main_v0]
  have h := Fin.sum_univ_add (a := 512) (b := 512) (fun k : Fin 1024 => val_main_v5 (F := Ideal) x1 x2 (ix3 b s k) * x3 (ix2 k c))
  refine (congrArg (_ + ·) h).trans ((add_assoc _ _ _).symm.trans ?_)
  unfold mixed
  refine congrArg₂ (· + ·) (congrArg₂ (· + ·) rfl ?_) ?_
  · refine Finset.sum_congr rfl fun k _ => ?_
    rw [v5_apply, dif_pos (show (Fin.castAdd 512 k).val < 512 from k.isLt)]
    rfl
  · refine Finset.sum_congr rfl fun k _ => ?_
    rw [v5_apply, dif_neg (show ¬ (Fin.natAdd 512 k).val < 512 from by simp)]
    refine congrArg₂ (· * ·) (congrArg x2 (congrArg (ix2 _) (Fin.ext ?_))) rfl
    simp

/-- The mixed row normalised. -/
theorem v20_apply (c : Fin 1024) : val_main_v20 (F := Ideal) x0 x1 x2 x3 x4 (ix3 b s c)
    = normed (fun k => x4 (ix1 k)) (fun k => val_main_v7 (F := Ideal) x0 x1 x2 x3 (ix3 b s k)) c := by
  pointwise [val_main_v20, val_main_v19, val_main_v18, val_main_v17, val_main_v16, val_main_v15, val_main_v14, val_main_v13,
    val_main_v12, val_main_v11, val_main_v10, val_main_v9, val_main_v8, val_main_cst, val_main_cst_0, val_main_cst_1]
  rfl

/-- The query row, by heads. -/
theorem v22_apply (h : Fin 4) (d : Fin 256) : val_main_v22 (F := Ideal) x0 x1 x2 x3 x4 x5 (ix4 b s h d)
    = times (fun k => val_main_v20 (F := Ideal) x0 x1 x2 x3 x4 (ix3 b s k)) (mat x5) (col h d) := by
  unfold val_main_v22 val_main_v21
  generalize val_main_v20 (F := Ideal) x0 x1 x2 x3 x4 = y
  pointwise []
  refine Finset.sum_congr rfl fun k _ => congrArg₂ (· * ·) rfl (congrArg x5 (congrArg (ix2 k) (Fin.ext ?_)))
  simp [col, Nat.mul_comm]

/-- The keys, by sequence and head. -/
theorem v27_apply (j : Fin 256) (h : Fin 4) (d : Fin 256) : val_main_v27 (F := Ideal) x6 (ix4 b j h d)
    = x6 (ix2 (memRow (tokOf b s) j) (keyCol (col h d))) := by
  pointwise [val_main_v27, val_main_v25, val_main_v24, val_main_v23]
  refine congrArg x6 (congrArg₂ ix2 (Fin.ext ?_) (Fin.ext ?_)) <;> simp [memRow, tokOf, keyCol, col] <;> omega

/-- The values, by sequence and head. -/
theorem v28_apply (j : Fin 256) (h : Fin 4) (d : Fin 256) : val_main_v28 (F := Ideal) x6 (ix4 b j h d)
    = x6 (ix2 (memRow (tokOf b s) j) (valCol (col h d))) := by
  pointwise [val_main_v28, val_main_v26, val_main_v24, val_main_v23]
  refine congrArg x6 (congrArg₂ ix2 (Fin.ext ?_) (Fin.ext ?_)) <;> simp [memRow, tokOf, valCol, col] <;> omega

/-- The scaled scores. -/
theorem v31_apply (h : Fin 4) (j : Fin 256) : val_main_v31 (F := Ideal) x0 x1 x2 x3 x4 x5 x6 (ix4 b h s j)
    = score (times (fun k => val_main_v20 (F := Ideal) x0 x1 x2 x3 x4 (ix3 b s k)) (mat x5))
        (fun j k => x6 (ix2 (memRow (tokOf b s) j) (keyCol k))) h j := by
  have hq := fun d => v22_apply x0 x1 x2 x3 x4 x5 b s h d
  have hk := fun d => v27_apply x6 b s j h d
  unfold val_main_v31 val_main_v29
  generalize val_main_v22 (F := Ideal) x0 x1 x2 x3 x4 x5 = q at hq ⊢
  generalize val_main_v27 (F := Ideal) x6 = k at hk ⊢
  pointwise [val_main_v30, val_main_cst_2]
  simp only [hq, hk]
  rfl

/-- The largest score. -/
theorem v32_apply (h : Fin 4) : val_main_v32 (F := Ideal) x0 x1 x2 x3 x4 x5 x6 (ix3 b h s)
    = top (fun j => val_main_v31 (F := Ideal) x0 x1 x2 x3 x4 x5 x6 (ix4 b h s j)) := by
  unfold val_main_v32
  generalize val_main_v31 (F := Ideal) x0 x1 x2 x3 x4 x5 x6 = y
  exact reduce_max_last y _ _ _ b h s

/-- The largest score, against the value the search starts from. -/
theorem v34_apply (h : Fin 4) : val_main_v34 (F := Ideal) x0 x1 x2 x3 x4 x5 x6 (ix3 b h s)
    = top (fun j => val_main_v31 (F := Ideal) x0 x1 x2 x3 x4 x5 x6 (ix4 b h s j)) := by
  have hc : val_main_v33 (F := Ideal) (ix3 b h s) = Ideal.ofBits .f32 0xFF800000#32 := by
    pointwise [val_main_v33, val_main_cst_4]
  rw [val_main_v34_apply, hc, v32_apply, maximumf_eq, start_max_top]

/-- The exponentials. -/
theorem v38_apply (h : Fin 4) (j : Fin 256) : val_main_v38 (F := Ideal) x0 x1 x2 x3 x4 x5 x6 (ix4 b h s j)
    = Ideal.exp (val_main_v31 (F := Ideal) x0 x1 x2 x3 x4 x5 x6 (ix4 b h s j)
        - top (fun j => val_main_v31 (F := Ideal) x0 x1 x2 x3 x4 x5 x6 (ix4 b h s j))) := by
  rw [← v34_apply x0 x1 x2 x3 x4 x5 x6 b s h]
  unfold val_main_v38 val_main_v37 val_main_v36 val_main_v35
  generalize val_main_v34 (F := Ideal) x0 x1 x2 x3 x4 x5 x6 = z
  generalize val_main_v31 (F := Ideal) x0 x1 x2 x3 x4 x5 x6 = y
  pointwise []

/-- The softmax of the scores. -/
theorem v42_apply (h : Fin 4) (j : Fin 256) : val_main_v42 (F := Ideal) x0 x1 x2 x3 x4 x5 x6 (ix4 b h s j)
    = soft (fun j => val_main_v31 (F := Ideal) x0 x1 x2 x3 x4 x5 x6 (ix4 b h s j)) j := by
  have he := fun j => v38_apply x0 x1 x2 x3 x4 x5 x6 b s h j
  unfold val_main_v42 val_main_v41 val_main_v40 val_main_v39
  generalize val_main_v38 (F := Ideal) x0 x1 x2 x3 x4 x5 x6 = y at he ⊢
  pointwise [val_main_cst_5]
  simp only [he]
  rfl

/-- The attention's row. -/
theorem v45_apply (c : Fin 1024) : val_main_v45 (F := Ideal) x0 x1 x2 x3 x4 x5 x6 (ix3 b s c)
    = attended (times (fun k => val_main_v20 (F := Ideal) x0 x1 x2 x3 x4 (ix3 b s k)) (mat x5))
        (fun j k => x6 (ix2 (memRow (tokOf b s) j) (keyCol k))) (fun j k => x6 (ix2 (memRow (tokOf b s) j) (valCol k))) c := by
  have hp := fun h j => v42_apply x0 x1 x2 x3 x4 x5 x6 b s h j
  have hv := fun j h d => v28_apply x6 b s j h d
  have hs := fun h => funext fun j => v31_apply x0 x1 x2 x3 x4 x5 x6 b s h j
  simp only [hs] at hp
  unfold val_main_v45 val_main_v44 val_main_v43
  generalize val_main_v42 (F := Ideal) x0 x1 x2 x3 x4 x5 x6 = p at hp ⊢
  generalize val_main_v28 (F := Ideal) x6 = v at hv ⊢
  pointwise []
  refine Finset.sum_congr rfl fun j _ => ?_
  rw [hp, hv, mul_comm]
  refine congrArg₂ (· * ·) rfl (congrArg x6 (congrArg (ix2 _) (congrArg valCol (Fin.ext ?_))))
  exact Nat.div_add_mod _ _

/-- The mixed row plus the attention through its output projection. -/
theorem v47_apply (c : Fin 1024) : val_main_v47 (F := Ideal) x0 x1 x2 x3 x4 x5 x6 x7 (ix3 b s c)
    = tokOut x0 x1 x2 x3 x4 x5 x6 x7 (tokOf b s) c := by
  have h7 : (fun k => val_main_v7 (F := Ideal) x0 x1 x2 x3 (ix3 b s k)) = _ := funext fun k => v7_apply x0 x1 x2 x3 b s k
  have h20 : (fun k => val_main_v20 (F := Ideal) x0 x1 x2 x3 x4 (ix3 b s k)) = _ := funext fun k => v20_apply x0 x1 x2 x3 x4 b s k
  have h45 := fun k => v45_apply x0 x1 x2 x3 x4 x5 x6 b s k
  have h7' := v7_apply x0 x1 x2 x3 b s c
  rw [h20, h7] at h45
  unfold val_main_v47 val_main_v46
  generalize val_main_v45 (F := Ideal) x0 x1 x2 x3 x4 x5 x6 = y at h45 ⊢
  generalize val_main_v7 (F := Ideal) x0 x1 x2 x3 = z at h7' ⊢
  pointwise []
  simp only [h45, h7']
  rfl

/-- The second normalisation. -/
theorem v60_apply (c : Fin 1024) : val_main_v60 (F := Ideal) x0 x1 x2 x3 x4 x5 x6 x7 x8 (ix3 b s c)
    = tokHidden x0 x1 x2 x3 x4 x5 x6 x7 x8 (tokOf b s) c := by
  have h := fun k => v47_apply x0 x1 x2 x3 x4 x5 x6 x7 b s k
  unfold val_main_v60 val_main_v57 val_main_v56 val_main_v55 val_main_v54 val_main_v52 val_main_v50 val_main_v49 val_main_v48
  generalize val_main_v47 (F := Ideal) x0 x1 x2 x3 x4 x5 x6 x7 = y at h ⊢
  pointwise [val_main_v59, val_main_v58, val_main_v53, val_main_v51, val_main_cst_6, val_main_cst_7, val_main_cst_8]
  simp only [h]
  rfl

/-- The first result. -/
theorem v68_apply (R : Fin 16384) (c : Fin 1024) : val_main_v68 (F := Ideal) x0 x1 x2 x3 x4 x5 x6 x7 (ix2 R c)
    = tokOut x0 x1 x2 x3 x4 x5 x6 x7 R c := by
  have h := fun b s => v47_apply x0 x1 x2 x3 x4 x5 x6 x7 b s c
  unfold val_main_v68
  generalize val_main_v47 (F := Ideal) x0 x1 x2 x3 x4 x5 x6 x7 = y at h ⊢
  pointwise []
  rw [h, tokOf_div_mod]

/-- The second result. -/
theorem v61_apply (R : Fin 16384) (c : Fin 1024) : val_main_v61 (F := Ideal) x0 x1 x2 x3 x4 x5 x6 x7 x8 (ix2 R c)
    = tokHidden x0 x1 x2 x3 x4 x5 x6 x7 x8 R c := by
  have h := fun b s => v60_apply x0 x1 x2 x3 x4 x5 x6 x7 x8 b s c
  unfold val_main_v61
  generalize val_main_v60 (F := Ideal) x0 x1 x2 x3 x4 x5 x6 x7 x8 = y at h ⊢
  pointwise []
  rw [h, tokOf_div_mod]

/-- The third result. -/
theorem v69_apply (e : Fin 128) (R : Fin 16384) : val_main_v69 (F := Ideal) x0 x1 x2 x3 x4 x5 x6 x7 x8 x9 x10 (ix2 e R)
    = tokLogit x0 x1 x2 x3 x4 x5 x6 x7 x8 x9 x10 e R := by
  have h := fun c => v61_apply x0 x1 x2 x3 x4 x5 x6 x7 x8 R c
  unfold val_main_v69 val_main_v67 val_main_v64
  generalize val_main_v61 (F := Ideal) x0 x1 x2 x3 x4 x5 x6 x7 x8 = y at h ⊢
  pointwise [val_main_v66, val_main_v65, val_main_v63, val_main_v62]
  unfold tokLogit logit
  refine congrArg₂ (· + ·) (Finset.sum_congr rfl fun k _ => ?_) rfl
  rw [h, mul_comm]

end Rows

end Cert.Trunk.Ref
-- ==== Proof.Trunk.Equation.lean ====
/- The trunk's claims: the two programs end at the same three arrays, and the plain program leaves its arguments alone. -/
module

public import proofs.«01_k».proof.Defs
public import proofs.«01_k».proof.Proof.Trunk.Ref
public import Idealize.ShloMosaic.Lib.Quiescent

@[expose] public section

noncomputable section

namespace Cert.Trunk

open Idealize.ShloMosaic Idealize.ShloMosaic.TcCoe Idealize.SL.Sem

/-- The plain program runs and leaves its arguments and every counter as they were. -/
theorem quiescent_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section Arrays

variable (m' : (ℓ : Loc Cert.ReferenceIdeal.nD Cert.ReferenceIdeal.τ Cert.ReferenceIdeal.sig) → Buf (Elt Ideal) ℓ)

/-- The plain program's first result, as the rows of Spec. -/
theorem ref_out (c : Dev Cert.ReferenceIdeal.nD) : Cert.ReferenceIdeal.Value.res_main_v68 m' c = (fun i : Cert.ReferenceIdeal.S16384x1024.Idx => tokOut
        (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
        (m' ((c.tc : Thread _ _).loc Cert.ReferenceIdeal.main_arg4)) (m' ((c.tc : Thread _ _).loc Cert.ReferenceIdeal.main_arg5))
        (m' ((c.tc : Thread _ _).loc Cert.ReferenceIdeal.main_arg6)) (m' ((c.tc : Thread _ _).loc Cert.ReferenceIdeal.main_arg7))
        (i 0) (i 1)) := by
  rw [Cert.ReferenceIdeal.Read.val_main_v68_eq]
  funext i
  exact (congrArg _ (ix2_eta (n0 := 16384) (n1 := 1024) i).symm).trans (Ref.v68_apply _ _ _ _ _ _ _ _ (i 0) (i 1))

/-- The plain program's second result, as the rows of Spec. -/
theorem ref_hidden (c : Dev Cert.ReferenceIdeal.nD) : Cert.ReferenceIdeal.Value.res_main_v61 m' c = (fun i : Cert.ReferenceIdeal.S16384x1024.Idx => tokHidden
        (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
        (m' ((c.tc : Thread _ _).loc Cert.ReferenceIdeal.main_arg4)) (m' ((c.tc : Thread _ _).loc Cert.ReferenceIdeal.main_arg5))
        (m' ((c.tc : Thread _ _).loc Cert.ReferenceIdeal.main_arg6)) (m' ((c.tc : Thread _ _).loc Cert.ReferenceIdeal.main_arg7))
        (m' ((c.tc : Thread _ _).loc Cert.ReferenceIdeal.main_arg8)) (i 0) (i 1)) := by
  rw [Cert.ReferenceIdeal.Read.val_main_v61_eq]
  funext i
  exact (congrArg _ (ix2_eta (n0 := 16384) (n1 := 1024) i).symm).trans (Ref.v61_apply _ _ _ _ _ _ _ _ _ (i 0) (i 1))

/-- The plain program's third result, as the logits of Spec. -/
theorem ref_logit (c : Dev Cert.ReferenceIdeal.nD) : Cert.ReferenceIdeal.Value.res_main_v69 m' c = (fun i : Cert.ReferenceIdeal.S128x16384.Idx => tokLogit
        (m' ((c.tc : Thread _ _).loc Cert.ReferenceIdeal.main_arg0)) (m' ((c.tc : Thread _ _).loc Cert.ReferenceIdeal.main_arg1))
        (m' ((c.tc : Thread _ _).loc Cert.ReferenceIdeal.main_arg2)) (m' ((c.tc : Thread _ _).loc Cert.ReferenceIdeal.main_arg3))
        (m' ((c.tc : Thread _ _).loc Cert.ReferenceIdeal.main_arg4)) (m' ((c.tc : Thread _ _).loc Cert.ReferenceIdeal.main_arg5))
        (m' ((c.tc : Thread _ _).loc Cert.ReferenceIdeal.main_arg6)) (m' ((c.tc : Thread _ _).loc Cert.ReferenceIdeal.main_arg7))
        (m' ((c.tc : Thread _ _).loc Cert.ReferenceIdeal.main_arg8)) (m' ((c.tc : Thread _ _).loc Cert.ReferenceIdeal.main_arg9))
        (m' ((c.tc : Thread _ _).loc Cert.ReferenceIdeal.main_arg10)) (i 0) (i 1)) := by
  rw [Cert.ReferenceIdeal.Read.val_main_v69_eq]
  funext i
  exact (congrArg _ (ix2_eta (n0 := 128) (n1 := 16384) i).symm).trans (Ref.v69_apply _ _ _ _ _ _ _ _ _ _ _ (i 0) (i 1))

end Arrays

/-- The kernel's three results are the plain program's. -/
theorem algebraic : Cert.algebraic_KernelIdeal_ReferenceIdeal := by
  intro m ρ m' ρ' _ hagree
  refine ⟨fun c => (Cert.KernelIdeal.Gen.dats m 0 c).arrAt 12 Cert.KernelIdeal.cfg0.N, fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, h4, h5, h6, h7, h8, h9, h10⟩ := hagree c
  obtain ⟨r0, r1, r2, hr⟩ := h c
  refine ⟨r0.trans ?_, r1.trans ?_, r2.trans ?_, hr⟩
  · refine ((ref_out m' c).trans ?_).trans (arr_12 m c).symm
    rw [h0, h1, h2, h3, h4, h5, h6, h7]
  · refine ((ref_hidden m' c).trans ?_).trans (arr_13 m c).symm
    rw [h0, h1, h2, h3, h4, h5, h6, h7, h8]
  · refine ((ref_logit m' c).trans ?_).trans (arr_14 m c).symm
    rw [h0, h1, h2, h3, h4, h5, h6, h7, h8, h9, h10]

end Cert.Trunk
-- ==== Proof.Experts.Run.lean ====
/- The experts' call, one block: what the body leaves on any staging buffers. A block of rows in use goes through its
   expert's gated network; a block past the count of blocks in use is filled with zeros. -/
module

public import proofs.«01_k».proof.Proof.Gen.Kernel2Ideal.Launch
public import proofs.«01_k».proof.Proof.Gen.Kernel2Ideal.Skeleton
public import Idealize.ShloMosaic.Lib.Pipeline.Quiescent
public import Idealize.ShloMosaic.Lib.Pipeline.Kit
public import Idealize.ShloMosaic.Lib.Pipeline.FrameBody
public import Idealize.ShloMosaic.Lib.Pipeline.Value
public import Idealize.ShloMosaic.Lib.Pipeline.ValueKit
public import Idealize.ShloMosaic.Lib.Writes
public import Idealize.ShloMosaic.Lib.Ring
public import Idealize.ShloMosaic.Lib.Exec
public import Idealize.ShloMosaic.Lib.WholeRead
public import Idealize.ShloMosaic.Lib.Tactic
public import Idealize.ShloMosaic.Lib.Claim

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The table of experts, and the table holding the count of blocks in use, as the body is handed them. -/
abbrev expertTab : Memref sig .tc .smem S160 .i32 := Memref.whole main_arg0
abbrev countTab : Memref sig .tc .smem S1 .i32 := Memref.whole main_arg1

/-- A table's contents on core `c`. -/
abbrev TabBuf (c : Dev nD) {S : Shape} {e : EltTy} (M : Memref sig .tc .smem S e) : Type := Buf (Elt F) (M.view.loc (c : Thread nD τ))
/-- The half of a table the body is lent. -/
abbrev tabHeld (c : Dev nD) {S : Shape} {e : EltTy} (M : Memref sig .tc .smem S e) (f : TabBuf (F := F) c M) : sProp 𝕄 :=
  M.view.loc (c : Thread nD τ) ↦{fullShare.right} f

/-- The one word of the count's table. -/
def countWord (c : Dev nD) (T : TabBuf (F := F) c countTab) : BitVec 32 :=
  View.readAt (Elt F) countTab.view (Rect.unit (s := S1) ![0] S1.size inb_S1_S1_0).toLoadRect T (Shape.Idx.first (numel1_S1.symm ▸ Nat.one_pos))

/-- What the body leaves in the result's block. -/
def blockOut (i : grid0.Coords) (n : BitVec 32) (x0 : Vec F S256x1024 .f32) (x1 x2 : Vec F S1x1024x512 .f32) (x3 : Vec F S1x512x1024 .f32) :
    Vec F S256x1024 .f32 :=
  if k0_cond1 i n = 1#1 then k0_pay1 x0 x1 x2 x3 else k0_pay2

/-- The body's two conditions are each other's negation. -/
theorem cond2_iff (i : grid0.Coords) (n : BitVec 32) : k0_cond2 i n = 1#1 ↔ ¬ k0_cond1 i n = 1#1 := by
  unfold k0_cond1 k0_cond2
  dsimp only
  generalize Scalar.cmpi .slt (BitVec.ofNat 32 (i 0).val) n = b
  revert b
  decide

theorem zeros2 : (![0, 0] : Fin 2 → ℕ) = fun _ => 0 := by funext a; fin_cases a <;> rfl
theorem zeros3 : (![0, 0, 0] : Fin 3 → ℕ) = fun _ => 0 := by funext a; fin_cases a <;> rfl

/-- A buffer read back after one store over the whole of it holds what was stored. -/
theorem read_one_store {S : Shape} {e : EltTy} (M : Memref sig .tc .vmem S e) (f : M.view.ty.Contents (Elt F)) {off : Fin S.rank → ℕ}
    (h : off = fun _ => 0) (inb : ∀ a, off a + S.size a ≤ S.size a) (w : Vec F S e) :
    M.view.read (Elt F) (M.view.writes (Elt F) f [⟨Rect.unit off S.size inb, w⟩]) = w :=
  (View.read_writes_eq_canon M.view f _ fun y => ⟨_, List.mem_singleton_self _, View.mem_set_unit_zero h inb y⟩).trans
    (View.canon_unit_zero h inb w)

/-- A load of the whole of a buffer is the buffer's contents. -/
theorem load_whole {S : Shape} {e : EltTy} (M : Memref sig .tc .vmem S e) (f : M.view.ty.Contents (Elt F)) {off : Fin S.rank → ℕ}
    (h : off = fun _ => 0) (inb : ∀ a, off a + S.size a ≤ S.size a) :
    M.view.readAt (Elt F) (Rect.unit off S.size inb).toLoadRect f = M.view.read (Elt F) f :=
  (View.readAt_eq_ld M.view f _).trans (View.ld_unit_zero h inb _)

set_option maxHeartbeats 8000000 in
/-- The body on any staging buffers: it leaves the inputs and the tables as they were and the result's block at `blockOut`. -/
theorem body_run (c : Dev nD) (i : grid0.Coords) (arg3 : Memref sig .tc .vmem S256x1024 .f32) (harg3 : arg3.IsWhole)
    (arg4 : Memref sig .tc .vmem S1x1024x512 .f32) (harg4 : arg4.IsWhole) (arg5 : Memref sig .tc .vmem S1x1024x512 .f32) (harg5 : arg5.IsWhole)
    (arg6 : Memref sig .tc .vmem S1x512x1024 .f32) (harg6 : arg6.IsWhole) (arg7 : Memref sig .tc .vmem S256x1024 .f32) (harg7 : arg7.IsWhole)
    (x0 : Vec F S256x1024 .f32) (x1 x2 : Vec F S1x1024x512 .f32) (x3 : Vec F S1x512x1024 .f32)
    (T0 : TabBuf (F := F) c expertTab) (T1 : TabBuf (F := F) c countTab) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ tabHeld c expertTab T0 ∗ tabHeld c countTab T1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (blockOut i (countWord c T1) x0 x1 x2 x3)
            ∗ tabHeld c expertTab T0 ∗ tabHeld c countTab T1) -∗ K ⟨⟩))
      ⊢ wp frame (wpE (defs₀ (F := F)) Variants.none c none) E
          (cc0_experts i expertTab (Memref.isWhole_whole _) countTab (Memref.isWhole_whole _) arg3 harg3 arg4 harg4 arg5 harg5 arg6 harg6 arg7 harg7) K := by
  rw [cc0_experts_eq_skeleton]; unfold cc0_experts_skel
  have hT : countTab.IsWhole := Memref.isWhole_whole _
  by_cases h1 : k0_cond1 i (countWord c T1) = 1#1
  · have h2 : ¬ k0_cond2 i (countWord c T1) = 1#1 := fun h => (cond2_iff _ _).1 h h1
    rw [show blockOut i (countWord c T1) x0 x1 x2 x3 = k0_pay1 x0 x1 x2 x3 from if_pos h1]
    unfold countWord at h1 h2
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    sl_exec! (disch := first | (guard_target = k0_cond1 _ _ = _; exact h1) | (guard_target = ¬(k0_cond2 _ _ = _); exact h2))
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      swap; · iexact H4
      ipureintro
      refine (read_one_store arg7 _ zeros2 _ _).trans ?_
      rw [load_whole arg3 _ zeros2, load_whole arg4 _ zeros3, load_whole arg5 _ zeros3, load_whole arg6 _ zeros3, hf0, hf1, hf2, hf3]
    isplitl [HT0]; · iexact HT0
    iexact HT1
  · have h2 : k0_cond2 i (countWord c T1) = 1#1 := (cond2_iff _ _).2 h1
    rw [show blockOut i (countWord c T1) x0 x1 x2 x3 = k0_pay2 from if_neg h1]
    unfold countWord at h1 h2
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    sl_exec! (disch := first | (guard_target = ¬(k0_cond1 _ _ = _); exact h1) | (guard_target = k0_cond2 _ _ = _; exact h2))
    sl_step
    iapply Hk
    isplitl [H0]
    · iexists _; isplitr
      · ipureintro; exact hf0
      iexact H0
    isplitl [H1]
    · iexists _; isplitr
      · ipureintro; exact hf1
      iexact H1
    isplitl [H2]
    · iexists _; isplitr
      · ipureintro; exact hf2
      iexact H2
    isplitl [H3]
    · iexists _; isplitr
      · ipureintro; exact hf3
      iexact H3
    isplitl [H4]
    · iexists _; isplitr
      swap; · iexact H4
      ipureintro
      exact read_one_store arg7 _ zeros2 _ _
    isplitl [HT0]; · iexact HT0
    iexact HT1

end Cert.Experts

end
-- ==== Proof.Experts.Frame.lean ====
/- The experts' call, the whole run: for any tables whose blocks lie inside the arrays, every point of the grid finds its
   inputs' blocks staged, leaves the result's block at `blockOut`, and every argument is left as it was. -/
module

public import proofs.«01_k».proof.Proof.Experts.Run
public import Idealize.ShloMosaic.Lib.Pipeline.Frame

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- A buffer of core `c` when the region is entered: as launched, the program being the region alone. -/
abbrev entry (c : Dev nD) (b : Ref sig .tc) : Buf (Elt F) ((c : Thread nD τ).loc b) := m ((c : Thread nD τ).loc b)

set_option maxHeartbeats 800000 in
/-- The program is its region alone. -/
theorem main_region (𝒱₀ : Variants) : Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

/-- The two tables as launched. -/
def tabs : pre0.Contents (Elt F) := fun j => entry m (0 : Dev nD) (pre0.ref j)

theorem entry_tabs (c : Dev nD) (j : Fin 2) : entry m c (pre0.ref j) = tabs m j := by
  obtain rfl : c = 0 := Subsingleton.elim _ _
  rfl

/-- Every block the tables name lies inside its array. -/
abbrev Ok : Prop := ok0 (F := F) (tabs m)
/-- Such tables, and the pipeline at them. -/
abbrev adm (hO : Ok m) : (pcfg0 (F := F)).Adm := ⟨tabs m, hO⟩
abbrev pipe (hO : Ok m) : Pipeline.Cfg sig Λ₀ := cfg0 (adm m hO)

/-- The halves of the two tables the region lends the body. -/
theorem tabs_lent (c : Dev nD) :
    (Pipeline.ΦT pre0 (tabs m) c : sProp 𝕄) = iprop(tabHeld c expertTab (tabs m 0) ∗ tabHeld c countTab (tabs m 1)) := by
  unfold Pipeline.ΦT Pipeline.prefHeld
  rw [show (Finset.univ : Finset (Fin 2)) = insert (0 : Fin 2) {(1 : Fin 2)} from by decide, bigSep_insert (by decide), bigSep_singleton]
  rfl

/-- Window `w`'s block at point `t`, read off its array as the region finds it. -/
def blockIn (hO : Ok m) (c : Dev nD) (w : Fin (pipe m hO).W) (t : Fin (pipe m hO).N) :
    (((pipe m hO).win w).xblock ((pipe m hO).grid.coords t)).Idx → Elt F ((pipe m hO).win w).elt :=
  (((pipe m hO).win w).blk t).view.read (Elt F) (entry m c (Pipeline.arrRef spec0 w))

/-! ## The staging buffers at a point -/

abbrev stg0 (hO : Ok m) (t : Fin (pipe m hO).N) : Memref sig .tc .vmem S256x1024 .f32 := spec0_0.stage ((pipe m hO).slots t 0)
abbrev stgWhole0 (hO : Ok m) (t : Fin (pipe m hO).N) : (stg0 m hO t).IsWhole := hstage0_0 (((pipe m hO).slots t 0).cast nbuf0_0)
abbrev stg1 (hO : Ok m) (t : Fin (pipe m hO).N) : Memref sig .tc .vmem S1x1024x512 .f32 := spec0_1.stage ((pipe m hO).slots t 1)
abbrev stgWhole1 (hO : Ok m) (t : Fin (pipe m hO).N) : (stg1 m hO t).IsWhole := hstage0_1 (((pipe m hO).slots t 1).cast nbuf0_1)
abbrev stg2 (hO : Ok m) (t : Fin (pipe m hO).N) : Memref sig .tc .vmem S1x1024x512 .f32 := spec0_2.stage ((pipe m hO).slots t 2)
abbrev stgWhole2 (hO : Ok m) (t : Fin (pipe m hO).N) : (stg2 m hO t).IsWhole := hstage0_2 (((pipe m hO).slots t 2).cast nbuf0_2)
abbrev stg3 (hO : Ok m) (t : Fin (pipe m hO).N) : Memref sig .tc .vmem S1x512x1024 .f32 := spec0_3.stage ((pipe m hO).slots t 3)
abbrev stgWhole3 (hO : Ok m) (t : Fin (pipe m hO).N) : (stg3 m hO t).IsWhole := hstage0_3 (((pipe m hO).slots t 3).cast nbuf0_3)
abbrev stg4 (hO : Ok m) (t : Fin (pipe m hO).N) : Memref sig .tc .vmem S256x1024 .f32 := spec0_4.stage ((pipe m hO).slots t 4)
abbrev stgWhole4 (hO : Ok m) (t : Fin (pipe m hO).N) : (stg4 m hO t).IsWhole := hstage0_4 (((pipe m hO).slots t 4).cast nbuf0_4)

/-- The body at point `t`, on the staging buffers the pipeline calls it with. -/
abbrev bodyAt (hO : Ok m) (t : Fin (pipe m hO).N) : Prog (TpuEff nD τ sig (Elt F) Λ₀ .tc) PUnit :=
  cc0_experts (grid0.coords t) expertTab (Memref.isWhole_whole _) countTab (Memref.isWhole_whole _)
    (stg0 m hO t) (stgWhole0 m hO t) (stg1 m hO t) (stgWhole1 m hO t) (stg2 m hO t) (stgWhole2 m hO t)
    (stg3 m hO t) (stgWhole3 m hO t) (stg4 m hO t) (stgWhole4 m hO t)

/-- What the result's staging buffer holds after point `t`. -/
def left (hO : Ok m) (c : Dev nD) (t : Fin (pipe m hO).N) : Vec F S256x1024 .f32 :=
  blockOut (grid0.coords t) (countWord c (tabs m 1)) (blockIn m hO c 0 t) (blockIn m hO c 1 t) (blockIn m hO c 2 t) (blockIn m hO c 3 t)

/-- The run's data: arrays as the region finds them, inputs' buffers left at their blocks, the result's at `left`. -/
def dats (hO : Ok m) (_ : Fin 1) (c : Dev nD) : Dat τ (Elt F) Unit ℕ (UR sig nD τ) ℕ (pipe m hO) c where
  A w := entry m c (Pipeline.arrRef spec0 w)
  after w t := match w with
    | ⟨0, _⟩ => blockIn m hO c 0 t
    | ⟨1, _⟩ => blockIn m hO c 1 t
    | ⟨2, _⟩ => blockIn m hO c 2 t
    | ⟨3, _⟩ => blockIn m hO c 3 t
    | ⟨4, _⟩ => left m hO c t
  Φ _ := iprop(Pipeline.ΦA spec0 c ∗ Pipeline.ΦT pre0 (tabs m) c)
  q _ := fullShare
  owed _ := 0

theorem A_eq (hO : Ok m) (c : Dev nD) (w : Fin (pipe m hO).W) : (dats m hO 0 c).A w = entry m c (Pipeline.arrRef spec0 w) := by
  dsimp only [dats]

theorem after0 (hO : Ok m) (c : Dev nD) (t : Fin (pipe m hO).N) : (dats m hO 0 c).after 0 t = blockIn m hO c 0 t := by dsimp only [dats]; try rfl
theorem after1 (hO : Ok m) (c : Dev nD) (t : Fin (pipe m hO).N) : (dats m hO 0 c).after 1 t = blockIn m hO c 1 t := by dsimp only [dats]; try rfl
theorem after2 (hO : Ok m) (c : Dev nD) (t : Fin (pipe m hO).N) : (dats m hO 0 c).after 2 t = blockIn m hO c 2 t := by dsimp only [dats]; try rfl
theorem after3 (hO : Ok m) (c : Dev nD) (t : Fin (pipe m hO).N) : (dats m hO 0 c).after 3 t = blockIn m hO c 3 t := by dsimp only [dats]; try rfl
theorem after4 (hO : Ok m) (c : Dev nD) (t : Fin (pipe m hO).N) : (dats m hO 0 c).after 4 t = left m hO c t := by dsimp only [dats]; try rfl

/-- Input 0's staging buffer holds its block at every point, fetched there or not. -/
theorem before0 (hO : Ok m) (c : Dev nD) (t : Fin (pipe m hO).N) (d) : (dats m hO 0 c).before 0 t d = blockIn m hO c 0 t :=
  ((dats m hO 0 c).before_in_eq_fetched 0 rfl (fun _ => rfl) (fun _ _ _ => rfl)
    (fun t => by rw [after0]; unfold Dat.blockOf blockIn; rw [A_eq]; try rfl) t d).trans
    (by unfold Dat.fetched Dat.blockOf blockIn; rw [A_eq]; try rfl)
/-- Input 1's staging buffer holds its block at every point, fetched there or not. -/
theorem before1 (hO : Ok m) (c : Dev nD) (t : Fin (pipe m hO).N) (d) : (dats m hO 0 c).before 1 t d = blockIn m hO c 1 t :=
  ((dats m hO 0 c).before_in_eq_fetched 1 rfl (fun _ => rfl) (fun _ _ _ => rfl)
    (fun t => by rw [after1]; unfold Dat.blockOf blockIn; rw [A_eq]; try rfl) t d).trans
    (by unfold Dat.fetched Dat.blockOf blockIn; rw [A_eq]; try rfl)
/-- Input 2's staging buffer holds its block at every point, fetched there or not. -/
theorem before2 (hO : Ok m) (c : Dev nD) (t : Fin (pipe m hO).N) (d) : (dats m hO 0 c).before 2 t d = blockIn m hO c 2 t :=
  ((dats m hO 0 c).before_in_eq_fetched 2 rfl (fun _ => rfl) (fun _ _ _ => rfl)
    (fun t => by rw [after2]; unfold Dat.blockOf blockIn; rw [A_eq]; try rfl) t d).trans
    (by unfold Dat.fetched Dat.blockOf blockIn; rw [A_eq]; try rfl)
/-- Input 3's staging buffer holds its block at every point, fetched there or not. -/
theorem before3 (hO : Ok m) (c : Dev nD) (t : Fin (pipe m hO).N) (d) : (dats m hO 0 c).before 3 t d = blockIn m hO c 3 t :=
  ((dats m hO 0 c).before_in_eq_fetched 3 rfl (fun _ => rfl) (fun _ _ _ => rfl)
    (fun t => by rw [after3]; unfold Dat.blockOf blockIn; rw [A_eq]; try rfl) t d).trans
    (by unfold Dat.fetched Dat.blockOf blockIn; rw [A_eq]; try rfl)

/-- The result's window is used at every point: one of the body's two branches stores over it. -/
theorem used4 (hO : Ok m) (t : Fin (pipe m hO).N) : idle0 (tabs m) 4 ((pcfg0.gridAt (tabs m)).coords t) = false := by
  have key : ∀ (i : grid0.Coords) (n : BitVec 32), (!(k0_cond1 i n == 1#1) && !(k0_cond2 i n == 1#1)) = false := fun i n => by
    by_cases h : k0_cond1 i n = 1#1
    · simp [h]
    · simp [(cond2_iff i n).2 h]
  exact key _ _

/-! ## The body obligation -/

/-- What the body is called with at point `t`, window by window, -/
def bodyPre (hO : Ok m) (c : Dev nD) (t : Fin (pipe m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Ok m) (c : Dev nD) (t : Fin (pipe m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

/-- The body at any point. -/
theorem sound_body (hO : Ok m) (c : Dev nD) (t : Fin (pipe m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl, after0, after1, after2, after3, after4]
  rw [show (dats m hO 0 c).Φ t.castSucc = iprop(Pipeline.ΦA spec0 c ∗ Pipeline.ΦT pre0 (tabs m) c) from rfl, tabs_lent]
  unfold left
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (blockIn m hO c 0 t) (blockIn m hO c 1 t) (blockIn m hO c 2 t) (blockIn m hO c 3 t)
    (tabs m 0) (tabs m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at point `t` is the body on that point's staging buffers. -/
theorem defs_row (hO : Ok m) (t : Fin (pipe m hO).N) :
    defs₀ (F := F) .tc (pipe m hO).body ((pipe m hO).bodyArgs t ((pipe m hO).slots t)) = bodyAt m hO t := by
  unfold defs₀; rw [Defs.onTc_tc]

/-- The body obligation, at every point. -/
theorem body_obligation (hO : Ok m) (c : Dev nD) : BodyObligation (dats (F := F) m hO 0 c) (defs₀ (F := F)) Variants.none () Set.univ := fun t => by
  rw [bigSep_W0, bigSep_W0, defs_row m hO]
  refine triple_restated (sound_body m hO c t) rfl .rfl fun _ => ?_
  have hu := used4 m hO t
  dsimp only
  rw [hu]
  exact .rfl

/-! ## The run and the frame -/

set_option backward.isDefEq.respectTransparency.types false in
/-- Every run ends, with the arrays at what the data say and every counter at zero. -/
theorem run_main (hO : Ok m) : θ_run defs (onTc (τ := τ) (main (F := F))) (s₀ m ρ)
    (fun r => (Pipeline.FramePost (Pipeline.pin pcfgs fun _ => adm m hO) (dats m hO) 0 (entry m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := main_region m Variants.none) (hA := A_eq m hO) (hpf := entry_tabs m)
    (hΦ := fun _ _ => rfl)

/-- Every run ends, with every argument as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩, h.2⟩) (run_main m ρ hO)

end Cert.Experts

end
-- ==== Proof.Experts.Tables.lean ====
/- The experts' call: what the precondition says of the two tables, and what the index maps and the body's condition are
   at such tables. -/
module

public import proofs.«01_k».proof.Defs
public import proofs.«01_k».proof.Proof.Experts.Frame
public import proofs.«01_k».proof.Proof.Gen.Pre_tables_in_range
public import Idealize.ShloMosaic.Lib.StableHlo.Predicate
public import Idealize.ShloMosaic.Lib.ReduceAll
public import Idealize.ShloMosaic.Lib.WordCmp

@[expose] public section

noncomputable section

namespace Cert.Experts

open Cert.Kernel2Ideal Cert.Kernel2Ideal.Gen
open Idealize.ShloMosaic Idealize.ShloMosaic.TcCoe

variable {F : FTy → Type} [FloatOps F]

/-- The range the precondition gives: every word of the table of experts names one of the 32 experts, and the count of
    blocks in use is between 1 and 160. -/
structure InRange (T0 : IVec S160 32) (T1 : IVec S1 32) : Prop where
  expert : ∀ x, (T0 x).toNat < 32
  one : ∀ x, 1 ≤ (T1 x).toNat
  all : ∀ x, (T1 x).toNat ≤ 160

/-- A word between 0 and 32, read signed, is below 32 read unsigned. -/
theorem word_lt {x : BitVec 32} (h0 : IntOp.cmpi .sge x 0#32 = 1#1) (h1 : IntOp.cmpi .slt x 32#32 = 1#1) : x.toNat < 32 := by
  have a := IntOp.cmpi_sge.1 h0
  have b := IntOp.cmpi_slt.1 h1
  rw [show (0#32 : BitVec 32).toInt = 0 from by decide] at a
  rw [show (32#32 : BitVec 32).toInt = 32 from by decide] at b
  have c := BitVec.toInt_eq_toNat_cond x
  have d := x.isLt
  split at c <;> omega

/-- A word between 1 and 160, read signed, is so read unsigned. -/
theorem word_mid {x : BitVec 32} (h0 : IntOp.cmpi .sge x 1#32 = 1#1) (h1 : IntOp.cmpi .sle x 160#32 = 1#1) : 1 ≤ x.toNat ∧ x.toNat ≤ 160 := by
  have a := IntOp.cmpi_sge.1 h0
  have b := IntOp.cmpi_sle.1 h1
  rw [show (1#32 : BitVec 32).toInt = 1 from by decide] at a
  rw [show (160#32 : BitVec 32).toInt = 160 from by decide] at b
  have c := BitVec.toInt_eq_toNat_cond x
  have d := x.isLt
  split at c <;> omega

/-- The precondition, read. -/
theorem inRange_of_pre (T0 : IVec S160 32) (T1 : IVec S1 32) (a2 : FVec F S40960x1024 .f32) (a3 a4 : FVec F S32x1024x512 .f32)
    (a5 : FVec F S32x512x1024 .f32) (h : Cert.Pre_tables_in_range.fn (F := F) T0 T1 a2 a3 a4 a5 = fun _ => 1#1) : InRange T0 T1 := by
  have e := congrFun h (fun a => a.elim0)
  simp only [Cert.Pre_tables_in_range.fn] at e
  obtain ⟨e, e4⟩ := IntOp.andi_eq_one.1 e
  obtain ⟨e, e3⟩ := IntOp.andi_eq_one.1 e
  obtain ⟨e1, e2⟩ := IntOp.andi_eq_one.1 e
  exact ⟨fun x => word_lt (Host.reduce_andi_all _ _ _ _ _ e1 x) (Host.reduce_andi_all _ _ _ _ _ e2 x),
    fun x => (word_mid (Host.reduce_andi_all _ _ _ _ _ e3 x) (Host.reduce_andi_all _ _ _ _ _ e4 x)).1,
    fun x => (word_mid (Host.reduce_andi_all _ _ _ _ _ e3 x) (Host.reduce_andi_all _ _ _ _ _ e4 x)).2⟩

/-- The body's first condition: the block is one of those in use. -/
theorem cond1_iff (i : grid0.Coords) (n : BitVec 32) (hn : n.toNat ≤ 160) : k0_cond1 i n = 1#1 ↔ (i 0).val < n.toNat := by
  have hi : (i 0).val < 160 := (i 0).isLt
  have e : Scalar.cmpi .slt (BitVec.ofNat 32 (i 0).val) n = BitVec.ofBool (decide ((i 0).val < n.toNat)) := by
    have ha : (BitVec.ofNat 32 (i 0).val).toNat = (i 0).val := WordCmp.toNat_ofNat_of_lt (by omega)
    rw [show Scalar.cmpi .slt (BitVec.ofNat 32 (i 0).val) n = IntOp.cmpi .slt (BitVec.ofNat 32 (i 0).val) n from rfl,
      WordCmp.cmpi_slt_of_lt (by rw [ha]; norm_num; omega) (by norm_num; omega), ha]
  unfold k0_cond1
  dsimp only
  rw [e]
  by_cases h : (i 0).val < n.toNat
  · simp only [h, decide_true, iff_true]; decide
  · simp only [h, decide_false, iff_false]; decide

/-- The index map of the three weights: the block's expert. -/
theorem map1_eq (pf : pre0.Contents (Elt F)) (i : grid0.Coords) :
    cc0_transform_1 k0_off1_inb numel1_S1 pf i = ![((pf 0 : IVec S160 32) (ix1 (i 0))).toNat, 0, 0] := by
  have e : (Rect.unit (s := S160) (k0_off1 i) S1.size (k0_off1_inb i)).emb (Shape.Idx.first (numel1_S1.symm ▸ Nat.one_pos)) = ix1 (i 0) := by
    refine funext fun a => Fin.ext ?_
    obtain rfl : a = 0 := Subsingleton.elim _ _
    have h0 := congrFun (k0_off1_eq i) 0
    change k0_off1 i 0 + 1 * 0 = (i 0).val
    rw [h0]
    rfl
  exact congrArg (fun x : S160.Idx => ![((pf 0 : IVec S160 32) x).toNat, 0, 0]) e

/-- The smaller of a block's number and one less than the count, computed in words. -/
theorem min_word (b : ℕ) (n : BitVec 32) (hb : b < 160) (h1 : 1 ≤ n.toNat) (h2 : n.toNat ≤ 160) :
    (Scalar.minsi (BitVec.ofNat 32 b) (Scalar.subi n 1#32)).toNat = min b (n.toNat - 1) := by
  have ha : (BitVec.ofNat 32 b).toNat = b := WordCmp.toNat_ofNat_of_lt (by omega)
  have hs : (n - 1#32).toNat = n.toNat - 1 := by
    rw [BitVec.toNat_sub]
    change (2 ^ 32 - 1 + n.toNat) % 2 ^ 32 = _
    omega
  have hai : (BitVec.ofNat 32 b).toInt = b := by rw [WordCmp.toInt_eq_toNat_of_lt_half (by rw [ha]; norm_num; omega), ha]
  have hsi : (n - 1#32).toInt = ((n.toNat - 1 : ℕ) : ℤ) := by rw [WordCmp.toInt_eq_toNat_of_lt_half (by rw [hs]; norm_num; omega), hs]
  change (if (BitVec.ofNat 32 b).slt (n - 1#32) then BitVec.ofNat 32 b else n - 1#32).toNat = _
  rw [BitVec.slt, hai, hsi]
  split
  · rename_i h
    rw [ha]
    simp at h
    omega
  · rename_i h
    rw [hs]
    simp at h
    omega

/-- The index map of the rows: the block itself, or the last block in use. -/
theorem map0_eq (pf : pre0.Contents (Elt F)) (i : grid0.Coords) (h : InRange (pf 0) (pf 1)) :
    cc0_transform_0 inb_S1_S1_0 numel1_S1 pf i = ![min (i 0).val (((pf 1 : IVec S1 32) (ix1 0)).toNat - 1), 0] := by
  have e : (Rect.unit (s := S1) ![0] S1.size inb_S1_S1_0).emb (Shape.Idx.first (numel1_S1.symm ▸ Nat.one_pos)) = ix1 0 := by
    refine funext fun a => Fin.ext ?_
    obtain rfl : a = 0 := Subsingleton.elim _ _
    rfl
  have key : cc0_transform_0 inb_S1_S1_0 numel1_S1 pf i
      = ![(Scalar.minsi (BitVec.ofNat 32 (i 0).val) (Scalar.subi ((pf 1 : IVec S1 32) (ix1 0)) 1#32)).toNat, 0] :=
    congrArg (fun x : S1.Idx => ![(Scalar.minsi (BitVec.ofNat 32 (i 0).val) (Scalar.subi ((pf 1 : IVec S1 32) x) 1#32)).toNat, 0]) e
  rw [key]
  have h1 := h.one (ix1 0)
  have h2 := h.all (ix1 0)
  generalize (pf 1 : IVec S1 32) (ix1 0) = n at h1 h2 ⊢
  have hi : (i 0).val < 160 := (i 0).isLt
  rw [min_word _ _ hi h1 h2]

/-- The three weights share one index map. -/
theorem map2_eq (pf : pre0.Contents (Elt F)) (i : grid0.Coords) :
    cc0_transform_2 k0_off1_inb numel1_S1 pf i = ![((pf 0 : IVec S160 32) (ix1 (i 0))).toNat, 0, 0] := map1_eq pf i
theorem map3_eq (pf : pre0.Contents (Elt F)) (i : grid0.Coords) :
    cc0_transform_3 k0_off1_inb numel1_S1 pf i = ![((pf 0 : IVec S160 32) (ix1 (i 0))).toNat, 0, 0] := map1_eq pf i

/-- At tables in range every block lies inside its array. -/
theorem ok_of_inRange (pf : pre0.Contents (Elt F)) (h : InRange (pf 0) (pf 1)) : ok0 pf := by
  refine ⟨fun i => ⟨?_, .inl rfl⟩, fun i => ⟨?_, .inl rfl⟩, fun i => ⟨?_, .inl rfl⟩, fun i => ⟨?_, .inl rfl⟩⟩
  · rw [map0_eq pf i h]
    have hi : (i 0).val < 160 := (i 0).isLt
    intro a
    fin_cases a
    · change (min (i 0).val _ + 1) * 256 ≤ 40960
      omega
    · exact (by decide : (0 + 1) * 1024 ≤ 1024)
  · rw [map1_eq]
    have hi := h.expert (ix1 (i 0))
    intro a
    fin_cases a
    · change (((pf 0 : IVec S160 32) (ix1 (i 0))).toNat + 1) * 1 ≤ 32
      omega
    · exact (by decide : (0 + 1) * 1024 ≤ 1024)
    · exact (by decide : (0 + 1) * 512 ≤ 512)
  · rw [map2_eq]
    have hi := h.expert (ix1 (i 0))
    intro a
    fin_cases a
    · change (((pf 0 : IVec S160 32) (ix1 (i 0))).toNat + 1) * 1 ≤ 32
      omega
    · exact (by decide : (0 + 1) * 1024 ≤ 1024)
    · exact (by decide : (0 + 1) * 512 ≤ 512)
  · rw [map3_eq]
    have hi := h.expert (ix1 (i 0))
    intro a
    fin_cases a
    · change (((pf 0 : IVec S160 32) (ix1 (i 0))).toNat + 1) * 1 ≤ 32
      omega
    · exact (by decide : (0 + 1) * 512 ≤ 512)
    · exact (by decide : (0 + 1) * 1024 ≤ 1024)

/-- The precondition of the idealized program gives tables in range. -/
theorem inRange_ideal (m : (ℓ : Loc nD τ sig) → Buf (Elt Ideal) ℓ) (h : Cert.Pre_Kernel2Ideal m) : InRange (tabs m 0) (tabs m 1) :=
  inRange_of_pre (F := Ideal) _ _ _ _ _ _ (h 0)

end Cert.Experts

end
-- ==== Proof.Experts.Same.lean ====
/- The experts' call as compiled: its text is that of the idealized program, so what Frame shows at any arithmetic is
   shown of it, at machine words too. -/
module

public import proofs.«01_k».proof.Proof.Experts.Tables
public import proofs.«01_k».proof.Proof.Gen.Kernel2

@[expose] public section

noncomputable section

namespace Cert.Experts

open Idealize.ShloMosaic Idealize.ShloMosaic.TcCoe Idealize.SL.Sem

variable {F : FTy → Type} [FloatOps F]

/-- The two bodies are one. -/
theorem body_same : Cert.Kernel2.cc0_experts (F := F) = Cert.Kernel2Ideal.cc0_experts (F := F) := rfl

set_option maxHeartbeats 1000000 in
/-- So are the tables of bodies, -/
theorem rows_same : Cert.Kernel2.defs₀ (F := F) = Cert.Kernel2Ideal.defs₀ (F := F) := by
  unfold Cert.Kernel2.defs₀ Cert.Kernel2Ideal.defs₀
  refine congrArg Defs.onTc ?_
  funext b x
  match b, x with
  | 0, (t, s) =>
    exact congrFun (congrFun (congrFun (congrFun (congrFun (congrFun (congrFun (congrFun (congrFun (congrFun (congrFun (congrFun (congrFun
      (congrFun (congrFun body_same _) _) _) _) _) _) _) _) _) _) _) _) _) _) _

/-- the tables of everything called, -/
theorem defs_same : Cert.Kernel2.defs (F := F) = Cert.Kernel2Ideal.defs (F := F) := by
  unfold Cert.Kernel2.defs Cert.Kernel2Ideal.defs
  rw [rows_same]
  rfl

/-- and the programs. -/
theorem main_same : Cert.Kernel2.main (F := F) = Cert.Kernel2Ideal.main (F := F) := rfl

/-- The idealized program runs from every memory in range and leaves its arguments and every counter as they were. -/
theorem quiescent_ideal : Cert.quiescent_Kernel2Ideal := fun m ρ h => frame m ρ (ok_of_inRange _ (inRange_ideal m h))

/-- So does the program as compiled. -/
theorem quiescent_kernel : Cert.quiescent_Kernel2 := fun m ρ h => by
  rw [defs_same, main_same]
  exact frame (F := Bits) m ρ (ok_of_inRange _ (inRange_of_pre (F := Bits) _ _ _ _ _ _ (h 0)))

end Cert.Experts

end
-- ==== Proof.Experts.Block.lean ====
/- What the experts' body computes on one block of rows in use, entry by entry. -/
module

public import proofs.«01_k».proof.Proof.Experts.Run
public import Idealize.ShloMosaic.Lib.KernelVsHost
public import Idealize.ShloMosaic.Lib.Pointwise
public import proofs.«01_k».proof.Proof.Trunk.Spec

@[expose] public section

noncomputable section

namespace Cert.Experts

open Cert.Kernel2Ideal Cert.Kernel2Ideal.Gen Idealize.ShloMosaic Cert.Trunk

/-- A row through one matrix. -/
def through {n p : ℕ} (x : Fin n → EReal) (W : Fin n → Fin p → EReal) (k : Fin p) : EReal := ∑ j, x j * W j k

/-- A row inside an expert: the gate's projection through the logistic unit, times the other projection. -/
def hidden (x : Fin 1024 → EReal) (Wg Wu : Fin 1024 → Fin 512 → EReal) (k : Fin 512) : EReal :=
  through x Wg k * Ideal.logistic (through x Wg k) * through x Wu k

/-- A row through an expert. -/
def expertRow (x : Fin 1024 → EReal) (Wg Wu : Fin 1024 → Fin 512 → EReal) (Wd : Fin 512 → Fin 1024 → EReal) : Fin 1024 → EReal :=
  through (hidden x Wg Wu) Wd

/-- One matrix of a stack. -/
def slab {e n p : ℕ} (W : (⟨3, ![e, n, p]⟩ : Shape).Idx → EReal) (s : Fin e) : Fin n → Fin p → EReal := fun j k => W (ix3 s j k)

/-- A block in use. -/
theorem pay1_apply (x0 : Vec Ideal S256x1024 .f32) (x1 x2 : Vec Ideal S1x1024x512 .f32) (x3 : Vec Ideal S1x512x1024 .f32)
    (r : Fin 256) (k : Fin 1024) :
    k0_pay1 (F := Ideal) x0 x1 x2 x3 (ix2 r k) = expertRow (rowOf x0 r) (slab x1 0) (slab x2 0) (slab x3 0) k := by
  pointwise [k0_pay1]
  rfl

/-- A block not in use. -/
theorem pay2_apply (i : S256x1024.Idx) : k0_pay2 (F := Ideal) i = 0 := by
  pointwise [k0_pay2]

end Cert.Experts

end
-- ==== Proof.Experts.Array.lean ====
/- The experts' result as one array: every block a grid point writes is its expert's function of the block's rows, or zeros
   past the blocks in use, and the blocks fill the array. -/
module

public import proofs.«01_k».proof.Proof.Experts.Tables
public import proofs.«01_k».proof.Proof.Experts.Block
public import Idealize.ShloMosaic.Lib.Pipeline.ValueKit

@[expose] public section

set_option maxRecDepth 16384

noncomputable section

namespace Cert.Experts

open Cert.Kernel2Ideal Cert.Kernel2Ideal.Gen Idealize.ShloMosaic Idealize.ShloMosaic.TcCoe Idealize.ShloMosaic.Tactic
open Idealize.ShloMosaic.Pipeline (Dat Cfg Window)
open Cert.Trunk

/-- The block a row lies in. -/
def blockOf (R : Fin 40960) : Fin 160 := ⟨R.val / 256, by omega⟩

/-- Row `r` of block `b`. -/
def rowIn (b : Fin 160) (r : Fin 256) : Fin 40960 := ⟨256 * b.val + r.val, by omega⟩

/-- The expert the table names for block `b`. -/
def expertOf (T0 : S160.Idx → BitVec 32) (b : Fin 160) : Fin 32 := Fin.ofNat 32 (T0 (ix1 b)).toNat

/-- Row `R` of the result: through its block's expert when the block is in use, zero otherwise. -/
def resultRow (T0 : S160.Idx → BitVec 32) (T1 : S1.Idx → BitVec 32) (x : S40960x1024.Idx → EReal) (wg wu : S32x1024x512.Idx → EReal)
    (wd : S32x512x1024.Idx → EReal) (R : Fin 40960) : Fin 1024 → EReal := fun k =>
  if (blockOf R).val < (T1 (ix1 0)).toNat then
    expertRow (rowOf x R) (slab wg (expertOf T0 (blockOf R))) (slab wu (expertOf T0 (blockOf R))) (slab wd (expertOf T0 (blockOf R))) k
  else 0

variable (m : (ℓ : Loc nD τ sig) → Buf (Elt Ideal) ℓ) (c : Dev nD) (hO : Ok m) (hT : InRange (tabs m 0) (tabs m 1))

/-- The grid has one axis. -/
theorem coord_eq : ∀ t : Fin grid0.N, (grid0.coords t 0).val = t.val := by decide +kernel

/-- The block of each window at each grid point. -/
theorem index_0 (hT : InRange (tabs m 0) (tabs m 1)) (t : Fin (pipe m hO).N) :
    ((pipe m hO).win 0).index t = ![min t.val (((tabs m 1 : S1.Idx → BitVec 32) (ix1 0)).toNat - 1), 0] :=
  (map0_eq (tabs m) (grid0.coords t) hT).trans (by rw [coord_eq t])
theorem index_1 (t : Fin (pipe m hO).N) :
    ((pipe m hO).win 1).index t = ![((tabs m 0 : S160.Idx → BitVec 32) (ix1 (grid0.coords t 0))).toNat, 0, 0] := map1_eq (tabs m) (grid0.coords t)
theorem index_2 (t : Fin (pipe m hO).N) :
    ((pipe m hO).win 2).index t = ![((tabs m 0 : S160.Idx → BitVec 32) (ix1 (grid0.coords t 0))).toNat, 0, 0] := map2_eq (tabs m) (grid0.coords t)
theorem index_3 (t : Fin (pipe m hO).N) :
    ((pipe m hO).win 3).index t = ![((tabs m 0 : S160.Idx → BitVec 32) (ix1 (grid0.coords t 0))).toNat, 0, 0] := map3_eq (tabs m) (grid0.coords t)
theorem index_4 (t : Fin (pipe m hO).N) : ((pipe m hO).win 4).index t = ![t.val, 0] :=
  (by decide +kernel : ∀ t : Fin grid0.N, cc0_transform_4 (grid0.coords t) = ![t.val, 0]) t

/-- The rows of a block in use. -/
theorem blk_0 (hT : InRange (tabs m 0) (tabs m 1)) (t : Fin (pipe m hO).N)
    (ht : (grid0.coords t 0).val < ((tabs m 1 : S1.Idx → BitVec 32) (ix1 0)).toNat) (r : Fin 256) (k : Fin 1024) :
    (blockIn m hO c 0 t : S256x1024.Idx → EReal) (ix2 r k) = m ((c : Thread nD τ).loc main_arg2) (ix2 (rowIn (grid0.coords t 0) r) k) := by
  have e := coord_eq t
  blk_simp [blockIn]
  congr 1
  blk_ext [index_0 m hO hT, rowIn]

/-- The table's word is the expert's number. -/
theorem expertOf_val (hT : InRange (tabs m 0) (tabs m 1)) (b : Fin 160) :
    (expertOf (tabs m 0) b).val = ((tabs m 0 : S160.Idx → BitVec 32) (ix1 b)).toNat := Nat.mod_eq_of_lt (hT.expert _)

/-- The block's expert's gate weights. -/
theorem blk_1 (hT : InRange (tabs m 0) (tabs m 1)) (t : Fin (pipe m hO).N) (j : Fin 1024) (k : Fin 512) :
    (blockIn m hO c 1 t : S1x1024x512.Idx → EReal) (ix3 0 j k)
      = m ((c : Thread nD τ).loc main_arg3) (ix3 (expertOf (tabs m 0) (grid0.coords t 0)) j k) := by
  have e := expertOf_val m hT (grid0.coords t 0)
  blk_simp [blockIn]
  congr 1
  blk_ext [index_1 m hO, e]

/-- The block's expert's other input weights. -/
theorem blk_2 (hT : InRange (tabs m 0) (tabs m 1)) (t : Fin (pipe m hO).N) (j : Fin 1024) (k : Fin 512) :
    (blockIn m hO c 2 t : S1x1024x512.Idx → EReal) (ix3 0 j k)
      = m ((c : Thread nD τ).loc main_arg4) (ix3 (expertOf (tabs m 0) (grid0.coords t 0)) j k) := by
  have e := expertOf_val m hT (grid0.coords t 0)
  blk_simp [blockIn]
  congr 1
  blk_ext [index_2 m hO, e]

/-- The block's expert's output weights. -/
theorem blk_3 (hT : InRange (tabs m 0) (tabs m 1)) (t : Fin (pipe m hO).N) (j : Fin 512) (k : Fin 1024) :
    (blockIn m hO c 3 t : S1x512x1024.Idx → EReal) (ix3 0 j k)
      = m ((c : Thread nD τ).loc main_arg5) (ix3 (expertOf (tabs m 0) (grid0.coords t 0)) j k) := by
  have e := expertOf_val m hT (grid0.coords t 0)
  blk_simp [blockIn]
  congr 1
  blk_ext [index_3 m hO, e]

/-- A row's block. -/
theorem blockOf_rowIn (b : Fin 160) (r : Fin 256) : blockOf (rowIn b r) = b :=
  Fin.ext (by change (256 * b.val + r.val) / 256 = b.val; omega)

/-- A block row by row, given which blocks are in use. -/
theorem blockOut_apply (i : grid0.Coords) (n : BitVec 32) (hn : n.toNat ≤ 160) (x0 : S256x1024.Idx → EReal) (x1 x2 : S1x1024x512.Idx → EReal)
    (x3 : S1x512x1024.Idx → EReal) (r : Fin 256) (k : Fin 1024) : blockOut (F := Ideal) i n x0 x1 x2 x3 (ix2 r k)
      = if (i 0).val < n.toNat then expertRow (rowOf x0 r) (slab x1 0) (slab x2 0) (slab x3 0) k else 0 := by
  unfold blockOut
  by_cases h : (i 0).val < n.toNat
  · rw [if_pos ((cond1_iff i n hn).mpr h), if_pos h, pay1_apply]
  · rw [if_neg (fun e => h ((cond1_iff i n hn).mp e)), if_neg h, pay2_apply]

/-- Row `r` of block `b` of the result. -/
theorem resultRow_rowIn (T0 : S160.Idx → BitVec 32) (T1 : S1.Idx → BitVec 32) (x : S40960x1024.Idx → EReal) (wg wu : S32x1024x512.Idx → EReal)
    (wd : S32x512x1024.Idx → EReal) (b : Fin 160) (r : Fin 256) (k : Fin 1024) : resultRow T0 T1 x wg wu wd (rowIn b r) k
      = if b.val < (T1 (ix1 0)).toNat then
          expertRow (rowOf x (rowIn b r)) (slab wg (expertOf T0 b)) (slab wu (expertOf T0 b)) (slab wd (expertOf T0 b)) k
        else 0 := by
  unfold resultRow
  rw [blockOf_rowIn]

/-- A one-element array has one index. -/
theorem one_index (i j : S1.Idx) : i = j := funext fun a => by
  obtain rfl : a = (0 : Fin 1) := Subsingleton.elim (α := Fin 1) _ _
  have hi : (i 0).val < 1 := (i 0).isLt
  have hj : (j 0).val < 1 := (j 0).isLt
  exact Fin.ext (by omega)

/-- The word the body reads is the second table's. -/
theorem countWord_eq : countWord c (tabs m 1) = (tabs m 1 : S1.Idx → BitVec 32) (ix1 0) := by
  exact congrArg (tabs m 1 : S1.Idx → BitVec 32) (one_index _ _)

/-- The block a grid point leaves. -/
theorem left_apply (hT : InRange (tabs m 0) (tabs m 1)) (t : Fin (pipe m hO).N) (r : Fin 256) (k : Fin 1024) :
    (left m hO c t : S256x1024.Idx → EReal) (ix2 r k)
      = resultRow (tabs m 0) (tabs m 1) (m ((c : Thread nD τ).loc main_arg2)) (m ((c : Thread nD τ).loc main_arg3))
          (m ((c : Thread nD τ).loc main_arg4)) (m ((c : Thread nD τ).loc main_arg5)) (rowIn (grid0.coords t 0) r) k := by
  have hn : (countWord c (tabs m 1)).toNat = ((tabs m 1 : S1.Idx → BitVec 32) (ix1 0)).toNat := congrArg BitVec.toNat (countWord_eq m c)
  refine (blockOut_apply _ _ (hn.trans_le (hT.all _)) _ _ _ _ r k).trans (Eq.trans ?_ (resultRow_rowIn _ _ _ _ _ _ _ r k).symm)
  by_cases h : (grid0.coords t 0).val < ((tabs m 1 : S1.Idx → BitVec 32) (ix1 0)).toNat
  · have h0 : rowOf (blockIn m hO c 0 t : S256x1024.Idx → EReal) r
        = rowOf (m ((c : Thread nD τ).loc main_arg2)) (rowIn (grid0.coords t 0) r) := funext fun k => blk_0 m c hO hT t h r k
    have h1 : slab (blockIn m hO c 1 t : S1x1024x512.Idx → EReal) 0
        = slab (m ((c : Thread nD τ).loc main_arg3)) (expertOf (tabs m 0) (grid0.coords t 0)) :=
      funext fun j => funext fun k => blk_1 m c hO hT t j k
    have h2 : slab (blockIn m hO c 2 t : S1x1024x512.Idx → EReal) 0
        = slab (m ((c : Thread nD τ).loc main_arg4)) (expertOf (tabs m 0) (grid0.coords t 0)) :=
      funext fun j => funext fun k => blk_2 m c hO hT t j k
    have h3 : slab (blockIn m hO c 3 t : S1x512x1024.Idx → EReal) 0
        = slab (m ((c : Thread nD τ).loc main_arg5)) (expertOf (tabs m 0) (grid0.coords t 0)) :=
      funext fun j => funext fun k => blk_3 m c hO hT t j k
    refine (if_pos (h.trans_eq hn.symm)).trans (Eq.trans ?_ (if_pos h).symm)
    rw [h0, h1, h2, h3]
  · exact (if_neg fun e => h (e.trans_eq hn)).trans (if_neg h).symm

/-- The result is written back at every point. -/
theorem flush_4 : ∀ t : Fin (pipe m hO).N, ((pipe m hO).win 4).flush t = true :=
  (by decide +kernel : ∀ t : Fin grid0.N, Pipeline.Window.flushOf grid0 true cc0_transform_4 t = true)

/-- The result after the run. -/
theorem arr_4 (hT : InRange (tabs m 0) (tabs m 1)) : (dats m hO 0 c).arrAt 4 (pipe m hO).N = (fun i : S40960x1024.Idx =>
    resultRow (tabs m 0) (tabs m 1) (m ((c : Thread nD τ).loc main_arg2)) (m ((c : Thread nD τ).loc main_arg3))
      (m ((c : Thread nD τ).loc main_arg4)) (m ((c : Thread nD τ).loc main_arg5)) (i 0) (i 1)) := by
  refine (dats m hO 0 c).arrAt_eq_of_emb 4 _ (fun t _ (y : S256x1024.Idx) => ?_) fun (i : S40960x1024.Idx) => ?_
  · blk_simp
    rw [after4]
    refine (congrArg _ (ix2_eta (n0 := 256) (n1 := 1024) y).symm).trans ((left_apply m c hO hT t (y 0) (y 1)).trans ?_)
    have e := coord_eq t
    have e0 : rowIn (grid0.coords t 0) (y 0) = ((((pipe m hO).win 4).blk t).view.emb y : S40960x1024.Idx) (0 : Fin 2) :=
      Fin.ext (by blk_simp [index_4 m hO]; change 256 * (grid0.coords t 0).val + (y 0).val = _; omega)
    have e1 : y 1 = ((((pipe m hO).win 4).blk t).view.emb y : S40960x1024.Idx) (1 : Fin 2) := Fin.ext (by blk_simp [index_4 m hO])
    exact congrArg₂ (resultRow _ _ _ _ _ _) e0 e1
  · have h0 : (i 0).val < 40960 := (i 0).isLt
    have h1 : (i 1).val < 1024 := (i 1).isLt
    refine ⟨(⟨(i 0).val / 256, by change _ < 160; omega⟩ : Fin grid0.N), flush_4 m hO _, ?_⟩
    refine Finset.mem_map.mpr ⟨(ix2 (⟨(i 0).val % 256, by omega⟩ : Fin 256) (i 1) : S256x1024.Idx), Finset.mem_univ _, ?_⟩
    blk_ext [index_4 m hO]

end Cert.Experts

end
-- ==== Proof.Experts.Gather.lean ====
/- Picking one expert's matrix for each block, as the plain program does it: by the table's word, wrapped if negative and
   held inside the stack. At a word that numbers an expert this is that expert's matrix. -/
module

public import proofs.«01_k».proof.Proof.Gen.Reference2Ideal.Read
public import Idealize.ShloMosaic.Lib.Pointwise
public import proofs.«01_k».proof.Proof.Experts.Tables
public import proofs.«01_k».proof.Proof.Experts.Array

@[expose] public section

noncomputable section

namespace Cert.Experts.Ref

open Cert.Reference2Ideal Cert.Reference2Ideal.Gen Idealize.ShloMosaic Cert.Trunk Cert.Experts
open Cert.Reference2Ideal.Read

/-- One matrix of 32 for each of 160 blocks. -/
abbrev pick (A B : ℕ) (wf : GatherDims.WF ⟨3, ![32, A, B]⟩ ⟨2, ![160, 1]⟩ ⟨3, ![160, A, B]⟩ [1, 2] [0] [] [0] [] 1 ![1, A, B]) :
    GatherDims ⟨3, ![32, A, B]⟩ ⟨2, ![160, 1]⟩ ⟨3, ![160, A, B]⟩ where
  offsetDims := [1, 2]
  collapsedSliceDims := [0]
  operandBatchingDims := []
  startIndicesBatchingDims := []
  startIndexMap := [0]
  indexVectorDim := 1
  sliceSizes := ![1, A, B]
  wf := wf

/-- An entry of the matrices picked. -/
theorem pick_apply {α : Type} {A B : ℕ} (wf) (x : (⟨3, ![32, A, B]⟩ : Shape).Idx → α) (idx : IVec ⟨2, ![160, 1]⟩ 32)
    (b : Fin 160) (j : Fin A) (k : Fin B) (e : Fin 32) (he : (idx (ix2 b 0)).toInt.toNat = e.val) :
    Host.gather (pick A B wf) x idx (ix3 b j k) = x (ix3 e j k) := by
  unfold Host.gather
  congr 1
  funext a
  refine Fin.ext ?_
  show (pick A B wf).start (ix3 b j k) idx a + (pick A B wf).batchCoord (ix3 b j k) a + (pick A B wf).offCoord (ix3 b j k) a = _
  rw [GatherDims.batchCoord_eq_zero _ _ _ List.not_mem_nil]
  have h3 : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (pick A B wf).startIndexMap from List.mem_singleton.mpr rfl)]
    have hsi : (pick A B wf).siIdx (ix3 b j k) ⟨List.idxOf (0 : Fin 3) (pick A B wf).startIndexMap,
        List.idxOf_lt_length_iff.2 (List.mem_singleton.mpr rfl)⟩ = ix2 b 0 := by
      funext q
      refine Fin.ext ?_
      match q with
      | ⟨0, _⟩ => rfl
      | ⟨1, _⟩ => rfl
    change min (idx ((pick A B wf).siIdx (ix3 b j k) _)).toInt.toNat (32 - 1) + 0 + 0 = e.val
    rw [hsi, he]
    omega
  · unfold GatherDims.start
    rw [dif_neg (show ¬ (1 : Fin 3) ∈ (pick A B wf).startIndexMap from (by decide : ¬ (1 : Fin 3) ∈ [(0 : Fin 3)]))]
    unfold GatherDims.offCoord
    rw [dif_pos ((GatherDims.mem_sKept _ _).mpr ⟨(by decide : ¬ (1 : Fin 3) ∈ [(0 : Fin 3)]), List.not_mem_nil⟩)]
    exact Nat.zero_add _
  · unfold GatherDims.start
    rw [dif_neg (show ¬ (2 : Fin 3) ∈ (pick A B wf).startIndexMap from (by decide : ¬ (2 : Fin 3) ∈ [(0 : Fin 3)]))]
    unfold GatherDims.offCoord
    rw [dif_pos ((GatherDims.mem_sKept _ _).mpr ⟨(by decide : ¬ (2 : Fin 3) ∈ [(0 : Fin 3)]), List.not_mem_nil⟩)]
    exact Nat.zero_add _

/-- A word below 32 read signed. -/
theorem word_toInt {w : BitVec 32} (h : w.toNat < 32) : w.toInt = w.toNat :=
  WordCmp.toInt_eq_toNat_of_lt_half (by norm_num; omega)

/-- A word below 32 is not negative, so nothing is added to it. -/
theorem wrapped {w : BitVec 32} (h : w.toNat < 32) : Scalar.select (IntOp.cmpi .slt w 0#32) (IntOp.addi w 32#32) w = w := by
  have h0 : w.slt 0#32 = false := by
    rw [BitVec.slt, word_toInt h]
    simp
  change (if BitVec.ofBool (w.slt 0#32) = 1 then _ else _) = w
  rw [h0]
  rfl

variable (x0 : (⟨S160, .i32⟩ : BufTy).Contents (Elt Ideal)) (b : Fin 160)

/-- The number of block `b`'s expert. -/
theorem index_toNat (h : (x0 (ix1 b)).toNat < 32) :
    (Scalar.select (IntOp.cmpi .slt (x0 (ix1 b)) 0#32) (IntOp.addi (x0 (ix1 b)) 32#32) (x0 (ix1 b))).toInt.toNat
      = (expertOf x0 b).val := by
  rw [wrapped h, word_toInt h]
  change _ = (x0 (ix1 b)).toNat % 32
  omega

/-- The gate matrices picked. -/
theorem v7_apply (x3 : (⟨S32x1024x512, .f32⟩ : BufTy).Contents (Elt Ideal)) (h : (x0 (ix1 b)).toNat < 32) (j : Fin 1024) (k : Fin 512) :
    val_main_v7 (F := Ideal) x0 x3 (ix3 b j k) = x3 (ix3 (expertOf x0 b) j k) := by
  refine pick_apply (A := 1024) (B := 512) _ x3 (val_main_v6 (F := Ideal) x0) b j k _ (Eq.trans ?_ (index_toNat x0 b h))
  refine congrArg (fun w : BitVec 32 => w.toInt.toNat) ?_
  pointwise [val_main_v6, val_main_v5, val_main_v4, val_main_v3, val_main_v2, val_main_v1, val_main_c, val_main_c_0]

/-- The other input matrices picked. -/
theorem v15_apply (x4 : (⟨S32x1024x512, .f32⟩ : BufTy).Contents (Elt Ideal)) (h : (x0 (ix1 b)).toNat < 32) (j : Fin 1024) (k : Fin 512) :
    val_main_v15 (F := Ideal) x0 x4 (ix3 b j k) = x4 (ix3 (expertOf x0 b) j k) := v7_apply x0 b x4 h j k

/-- The output matrices picked. -/
theorem v25_apply (x5 : (⟨S32x512x1024, .f32⟩ : BufTy).Contents (Elt Ideal)) (h : (x0 (ix1 b)).toNat < 32) (j : Fin 512) (k : Fin 1024) :
    val_main_v25 (F := Ideal) x0 x5 (ix3 b j k) = x5 (ix3 (expertOf x0 b) j k) := by
  refine pick_apply (A := 512) (B := 1024) _ x5 (val_main_v24 (F := Ideal) x0) b j k _ (Eq.trans ?_ (index_toNat x0 b h))
  refine congrArg (fun w : BitVec 32 => w.toInt.toNat) ?_
  pointwise [val_main_v24, val_main_v23, val_main_v22, val_main_v21, val_main_v20, val_main_v19, val_main_c_3, val_main_c_4]

end Cert.Experts.Ref

end
-- ==== Proof.Experts.Ref.lean ====
/- The plain program's result, row by row: a row of a block in use through that block's expert, zero elsewhere. -/
module

public import proofs.«01_k».proof.Proof.Gen.Reference2Ideal.Read
public import Idealize.ShloMosaic.Lib.Pointwise
public import Idealize.ShloMosaic.Lib.KernelVsHost
public import proofs.«01_k».proof.Proof.Experts.Gather

@[expose] public section

noncomputable section

namespace Cert.Experts.Ref

open Cert.Reference2Ideal Cert.Reference2Ideal.Gen Idealize.ShloMosaic Cert.Trunk Cert.Experts
open Cert.Reference2Ideal.Read

variable (x0 : (⟨S160, .i32⟩ : BufTy).Contents (Elt Ideal)) (x1 : (⟨S1, .i32⟩ : BufTy).Contents (Elt Ideal))
  (x2 : (⟨S40960x1024, .f32⟩ : BufTy).Contents (Elt Ideal)) (x3 x4 : (⟨S32x1024x512, .f32⟩ : BufTy).Contents (Elt Ideal))
  (x5 : (⟨S32x512x1024, .f32⟩ : BufTy).Contents (Elt Ideal)) (b : Fin 160) (hb : (x0 (ix1 b)).toNat < 32)

/-- The rows by blocks. -/
theorem v0_apply (r : Fin 256) (j : Fin 1024) : val_main_v0 (F := Ideal) x2 (ix3 b r j) = rowOf x2 (rowIn b r) j := by
  pointwise [val_main_v0]
  refine congrArg (fun R => x2 (ix2 R j)) (Fin.ext ?_)
  change b.val * 256 + r.val = 256 * b.val + r.val
  omega

include hb in
/-- The gate's projection. -/
theorem v8_apply (r : Fin 256) (k : Fin 512) : val_main_v8 (F := Ideal) x0 x2 x3 (ix3 b r k)
    = through (rowOf x2 (rowIn b r)) (slab x3 (expertOf x0 b)) k := by
  rw [val_main_v8_apply]
  unfold through
  refine Finset.sum_congr rfl fun j _ => congrArg₂ (· * ·) ?_ ?_
  · exact (congrArg _ (funext fun a => by fin_cases a <;> rfl)).trans (v0_apply x2 b r j)
  · exact (congrArg _ (funext fun a => by fin_cases a <;> rfl)).trans (v7_apply x0 b x3 hb j k)

include hb in
/-- The other projection. -/
theorem v16_apply (r : Fin 256) (k : Fin 512) : val_main_v16 (F := Ideal) x0 x2 x4 (ix3 b r k)
    = through (rowOf x2 (rowIn b r)) (slab x4 (expertOf x0 b)) k := v8_apply x0 x2 x4 b hb r k

include hb in
/-- What the expert's output matrix is applied to. -/
theorem v18_apply (r : Fin 256) (k : Fin 512) : val_main_v18 (F := Ideal) x0 x2 x3 x4 (ix3 b r k)
    = hidden (rowOf x2 (rowIn b r)) (slab x3 (expertOf x0 b)) (slab x4 (expertOf x0 b)) k := by
  have h8 := v8_apply x0 x2 x3 b hb r k
  have h16 := v16_apply x0 x2 x4 b hb r k
  unfold val_main_v18 val_main_v17 val_main_call0_v5 val_main_call0_v3 val_main_call0_v1 val_main_call0_v0
  generalize val_main_v8 (F := Ideal) x0 x2 x3 = y at h8 ⊢
  generalize val_main_v16 (F := Ideal) x0 x2 x4 = z at h16 ⊢
  pointwise [val_main_call0_v2, val_main_call0_v4, val_main_call0_cst, val_main_call0_cst_0]
  rw [h8, h16]
  rfl

include hb in
/-- A row through its block's expert. -/
theorem v26_apply (r : Fin 256) (k : Fin 1024) : val_main_v26 (F := Ideal) x0 x2 x3 x4 x5 (ix3 b r k)
    = expertRow (rowOf x2 (rowIn b r)) (slab x3 (expertOf x0 b)) (slab x4 (expertOf x0 b)) (slab x5 (expertOf x0 b)) k := by
  rw [val_main_v26_apply]
  unfold expertRow through
  refine Finset.sum_congr rfl fun j _ => congrArg₂ (· * ·) ?_ ?_
  · exact (congrArg _ (funext fun a => by fin_cases a <;> rfl)).trans (v18_apply x0 x2 x3 x4 b hb r j)
  · exact (congrArg _ (funext fun a => by fin_cases a <;> rfl)).trans (v25_apply x0 b x5 hb j k)

/-- A block's number against the count of blocks in use, compared as words. -/
theorem used_iff (n : BitVec 32) (hn : n.toNat ≤ 160) : IntOp.cmpi .slt (BitVec.ofNat 32 b.val) n = 1#1 ↔ b.val < n.toNat := by
  have hb : (BitVec.ofNat 32 b.val).toNat = b.val := WordCmp.toNat_ofNat_of_lt (by omega)
  rw [IntOp.cmpi_slt, WordCmp.toInt_eq_toNat_of_lt_half (by rw [hb]; norm_num; omega),
    WordCmp.toInt_eq_toNat_of_lt_half (by norm_num; omega), hb]
  exact Int.ofNat_lt

include hb in
/-- The rows of a block. -/
theorem v31_apply (hn : (x1 (ix1 0)).toNat ≤ 160) (r : Fin 256) (k : Fin 1024) :
    val_main_v31 (F := Ideal) x0 x1 x2 x3 x4 x5 (ix3 b r k) = resultRow x0 x1 x2 x3 x4 x5 (rowIn b r) k := by
  have h := v26_apply x0 x2 x3 x4 x5 b hb r k
  rw [resultRow_rowIn]
  unfold val_main_v31
  generalize val_main_v26 (F := Ideal) x0 x2 x3 x4 x5 = y at h ⊢
  pointwise [val_main_call1_v1, val_main_call1_v2, val_main_call1_v0, val_main_v30, val_main_v29, val_main_v28, val_main_v27, val_main_cst]
  rw [h]
  by_cases hu : b.val < (x1 (ix1 0)).toNat
  · rw [if_pos hu]
    exact if_pos ((used_iff b _ hn).mpr hu)
  · rw [if_neg hu]
    refine (if_neg fun e => hu ((used_iff b _ hn).mp e)).trans ?_
    change constant (F := Ideal) S_ .f32 0#32 ix0 = (0 : EReal)
    pointwise []

/-- The result. -/
theorem v32_apply (hT : InRange x0 x1) (R : Fin 40960) (k : Fin 1024) :
    val_main_v32 (F := Ideal) x0 x1 x2 x3 x4 x5 (ix2 R k) = resultRow x0 x1 x2 x3 x4 x5 R k := by
  have h := fun b r => v31_apply x0 x1 x2 x3 x4 x5 b (hT.expert _) (hT.all _) r k
  unfold val_main_v32
  generalize val_main_v31 (F := Ideal) x0 x1 x2 x3 x4 x5 = y at h ⊢
  pointwise []
  refine (h _ _).trans (congrArg (fun R => resultRow x0 x1 x2 x3 x4 x5 R k) (Fin.ext ?_))
  change 256 * (R.val / 256) + R.val % 256 = R.val
  omega

end Cert.Experts.Ref

end
-- ==== Proof.Experts.Equation.lean ====
/- The experts' claims: at tables in range the two programs end at the same array, and the plain program leaves its
   arguments alone. -/
module

public import proofs.«01_k».proof.Defs
public import proofs.«01_k».proof.Proof.Gen.Reference2Ideal.Run
public import Idealize.ShloMosaic.Lib.Quiescent
public import proofs.«01_k».proof.Proof.Experts.Ref
public import proofs.«01_k».proof.Proof.Experts.Array

@[expose] public section

noncomputable section

namespace Cert.Experts

open Idealize.ShloMosaic Idealize.ShloMosaic.TcCoe Idealize.SL.Sem Cert.Trunk

/-- The plain program runs and leaves its arguments and every counter as they were. -/
theorem quiescent_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

section Run

open Cert.Kernel2Ideal Cert.Kernel2Ideal.Gen

/-- Every run of the kernel ends with the result array at what the run's data say and the arguments as launched. -/
theorem run_result (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v0) = (dats m hO 0 c).arrAt 4 (pipe m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c).1 4,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3))⟩) (run_main m ρ hO)

end Run

/-- The plain program's result, as the rows of a block through its expert. -/
theorem ref_eq (x0 : Cert.Reference2Ideal.S160.Idx → BitVec 32) (x1 : Cert.Reference2Ideal.S1.Idx → BitVec 32)
    (x2 : Cert.Reference2Ideal.S40960x1024.Idx → EReal) (x3 x4 : Cert.Reference2Ideal.S32x1024x512.Idx → EReal)
    (x5 : Cert.Reference2Ideal.S32x512x1024.Idx → EReal) (hT : InRange x0 x1) :
    Cert.Reference2Ideal.Read.val_main_v32 (F := Ideal) x0 x1 x2 x3 x4 x5
      = fun i : Cert.Reference2Ideal.S40960x1024.Idx => resultRow x0 x1 x2 x3 x4 x5 (i 0) (i 1) := by
  funext i
  exact (congrArg _ (ix2_eta (n0 := 40960) (n1 := 1024) i).symm).trans (Ref.v32_apply x0 x1 x2 x3 x4 x5 hT (i 0) (i 1))

/-- At tables in range the kernel's result is the plain program's. -/
theorem algebraic : Cert.algebraic_Kernel2Ideal_Reference2Ideal := by
  intro m ρ m' ρ' hpre hagree
  have hT := inRange_ideal m hpre
  have hO : Ok m := ok_of_inRange _ hT
  refine ⟨fun c => (dats m hO 0 c).arrAt 4 (pipe m hO).N, run_result m ρ hO, ?_⟩
  refine (θ_run Cert.Reference2Ideal.defs _ _).mono (fun r h c => ?_) (Cert.Reference2Ideal.Value.run (F := Ideal) m' ρ')
  obtain ⟨h0, h1, h2, h3, h4, h5⟩ := hagree c
  obtain ⟨r0, hr⟩ := h c
  refine ⟨(r0.trans (Cert.Reference2Ideal.Read.val_main_v32_eq _ _ _ _ _ _)).trans (Eq.trans ?_ (arr_4 m c hO hT).symm), hr⟩
  have t0 : m ((c.tc : Thread Cert.Kernel2Ideal.nD Cert.Kernel2Ideal.τ).loc Cert.Kernel2Ideal.main_arg0) = tabs m 0 := entry_tabs m c 0
  have t1 : m ((c.tc : Thread Cert.Kernel2Ideal.nD Cert.Kernel2Ideal.τ).loc Cert.Kernel2Ideal.main_arg1) = tabs m 1 := entry_tabs m c 1
  rw [h0, h1, h2, h3, h4, h5, t0, t1]
  exact ref_eq (tabs m 0) (tabs m 1) _ _ _ _ hT

end Cert.Experts

end
-- ==== Proof.MixerIn.Spec.lean ====
/- One row of the mixer's input half, as plain functions on extended reals: the projection of the normalised row, the
   three-tap convolution over neighbouring rows, the gate and the per-head normalisation. -/
module

public import Idealize.ShloMosaic.Lib.IdealHost
public import proofs.«01_k».proof.Proof.Trunk.Spec

@[expose] public section

noncomputable section

namespace Cert.MixerIn

open Idealize.ShloMosaic Cert.Trunk

/-- Column `k` of the gate's part of the projection. -/
def gateCol (k : Fin 512) : Fin 2048 := ⟨k.val, by omega⟩

/-- Column `k` of the part that gates the convolution's input. -/
def cCol (k : Fin 512) : Fin 2048 := ⟨512 + k.val, by omega⟩

/-- Column `k` of the convolution's input part. -/
def vCol (k : Fin 512) : Fin 2048 := ⟨1024 + k.val, by omega⟩

/-- Column `k` of the Fourier part. -/
def fCol (k : Fin 512) : Fin 2048 := ⟨1536 + k.val, by omega⟩

/-- The normalised row through the input projection. -/
def proj (g x : Fin 1024 → EReal) (W : Fin 1024 → Fin 2048 → EReal) (k : Fin 2048) : EReal := ∑ j, normed g x j * W j k

/-- What the convolution runs over: the product of two parts of the projection. -/
def prod (g x : Fin 1024 → EReal) (W : Fin 1024 → Fin 2048 → EReal) (k : Fin 512) : EReal :=
  proj g x W (cCol k) * proj g x W (vCol k)

/-- Three taps over the row before, the row and the row after, and the bias. -/
def conv (w : Fin 3 → Fin 512 → EReal) (β up mid dn : Fin 512 → EReal) (k : Fin 512) : EReal :=
  w 0 k * up k + w 1 k * mid k + w 2 k * dn k + β k

/-- Channel `d` of the head that channel `k` belongs to: eight heads of 64. -/
def chan (k : Fin 512) (d : Fin 64) : Fin 512 := ⟨64 * (k.val / 64) + d.val, by omega⟩

/-- A row divided by the root mean square of each head, times the gain. -/
def headNormed (g y : Fin 512 → EReal) (k : Fin 512) : EReal :=
  y k * Ideal.rsqrt (Ideal.div (∑ d, y (chan k d) * y (chan k d)) (Ideal.ofBits .f32 0x42800000#32) + Ideal.ofBits .f32 0x358637BD#32) * g k

/-- The row of the convolution's half. -/
def convRow (W : Fin 1024 → Fin 2048 → EReal) (g x : Fin 1024 → EReal) (w : Fin 3 → Fin 512 → EReal)
    (β hg up dn : Fin 512 → EReal) : Fin 512 → EReal :=
  headNormed hg fun k => proj g x W (gateCol k) * conv w β up (prod g x W) dn k

/-- The square of an extended real is not negative. -/
theorem mul_self_nonneg' (y : EReal) : 0 ≤ y * y := by
  induction y with
  | bot => simp
  | coe r => exact_mod_cast mul_self_nonneg r
  | top => simp

/-- A common factor leaves a sum of terms that are not negative. -/
theorem sum_mul_nonneg {ι : Type} (s : Finset ι) (f : ι → EReal) (hf : ∀ i, 0 ≤ f i) (c : EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg (hf a) (Finset.sum_nonneg fun i _ => hf i)]

/-- Dividing by 64 is multiplying by one sixty-fourth. -/
theorem mul_inv_64 (x : EReal) : x * Ideal.ofBits .f32 0x3C800000#32 = Ideal.div x (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2]
  unfold Ideal.div
  rw [if_neg (by exact_mod_cast (by norm_num : (64 : ℝ) ≠ 0))]
  rw [← EReal.coe_inv]
  norm_num

/-- The product with the matrix that averages within heads is the mean over the head. -/
theorem group_mean (y : Fin 512 → EReal) (k : Fin 512) :
    ∑ j, (y j * y j) * (if j.val / 64 = k.val / 64 then Ideal.ofBits .f32 0x3C800000#32 else 0)
      = Ideal.div (∑ d, y (chan k d) * y (chan k d)) (Ideal.ofBits .f32 0x42800000#32) := by
  rw [← mul_inv_64, ← sum_mul_nonneg _ _ fun d => mul_self_nonneg' _]
  simp only [mul_ite, mul_zero]
  rw [← Finset.sum_filter]
  refine (Finset.sum_nbij' (fun d : Fin 64 => chan k d) (fun j : Fin 512 => (⟨j.val % 64, by omega⟩ : Fin 64)) ?_ ?_ ?_ ?_ ?_).symm
  · intro d _
    simp [chan]
    omega
  · intro j _
    simp
  · intro d _
    apply Fin.ext
    change (64 * (k.val / 64) + d.val) % 64 = d.val
    omega
  · intro j hj
    have := (Finset.mem_filter.1 hj).2
    apply Fin.ext
    simp [chan]
    omega
  · intro d _
    rfl

/-- The normalisation by heads, with the mean taken by that matrix. -/
theorem headNormed_eq (g y : Fin 512 → EReal) (k : Fin 512) :
    headNormed g y k = y k * Ideal.rsqrt (∑ j, (y j * y j) * (if j.val / 64 = k.val / 64 then Ideal.ofBits .f32 0x3C800000#32 else 0)
      + Ideal.ofBits .f32 0x358637BD#32) * g k := by
  rw [group_mean]
  rfl

end Cert.MixerIn

end
-- ==== Proof.MixerIn.Block.lean ====
/- What the body of the mixer's input half computes on one block of 512 rows. -/
module

public import proofs.«01_k».proof.Proof.Gen.Kernel3Ideal.Frame
public import Idealize.ShloMosaic.Lib.Pipeline.Value
public import Idealize.ShloMosaic.Lib.KernelVsHost
public import proofs.«01_k».proof.Proof.MixerIn.Spec

@[expose] public section

noncomputable section

namespace Cert.MixerIn

open Cert.Kernel3Ideal Cert.Kernel3Ideal.Gen Idealize.ShloMosaic Cert.Trunk

/-- The projection of a block's rows. -/
theorem pay3_apply (x0 : Vec Ideal S512x1024 .f32) (x3 : Vec Ideal S1x1024 .f32) (x4 : Vec Ideal S1024x2048 .bf16)
    (r : Fin 512) (k : Fin 2048) :
    k0_pay3 (F := Ideal) (View.ld x3 r0_0) (View.ld x0 r0_1) (View.ld x4 r0_2) (ix2 r k)
      = proj (rowOf x3 0) (rowOf x0 r) (mat x4) k := by
  pointwise [k0_pay3, k0_pay2, r0_0, r0_1, r0_2]
  rfl

/-- The gate's part. -/
theorem pay4_apply (x0 : Vec Ideal S512x1024 .f32) (x3 : Vec Ideal S1x1024 .f32) (x4 : Vec Ideal S1024x2048 .bf16)
    (r k : Fin 512) :
    k0_pay4 (F := Ideal) (View.ld x3 r0_0) (View.ld x0 r0_1) (View.ld x4 r0_2) (ix2 r k)
      = proj (rowOf x3 0) (rowOf x0 r) (mat x4) (gateCol k) := by
  have h := pay3_apply x0 x3 x4 r
  unfold k0_pay4
  generalize k0_pay3 (F := Ideal) (View.ld x3 r0_0) (View.ld x0 r0_1) (View.ld x4 r0_2) = y at h ⊢
  pointwise []
  rw [h]
  rfl

/-- The convolution's input. -/
theorem pay5_apply (x0 : Vec Ideal S512x1024 .f32) (x3 : Vec Ideal S1x1024 .f32) (x4 : Vec Ideal S1024x2048 .bf16)
    (r k : Fin 512) :
    k0_pay5 (F := Ideal) (View.ld x3 r0_0) (View.ld x0 r0_1) (View.ld x4 r0_2) (ix2 r k)
      = prod (rowOf x3 0) (rowOf x0 r) (mat x4) k := by
  have h := pay3_apply x0 x3 x4 r
  unfold k0_pay5
  generalize k0_pay3 (F := Ideal) (View.ld x3 r0_0) (View.ld x0 r0_1) (View.ld x4 r0_2) = y at h ⊢
  pointwise []
  rw [h, h]
  rfl

/-- The Fourier part. -/
theorem pay6_apply (x0 : Vec Ideal S512x1024 .f32) (x3 : Vec Ideal S1x1024 .f32) (x4 : Vec Ideal S1024x2048 .bf16)
    (r k : Fin 512) :
    k0_pay6 (F := Ideal) (View.ld x3 r0_0) (View.ld x0 r0_1) (View.ld x4 r0_2) (ix2 r k)
      = proj (rowOf x3 0) (rowOf x0 r) (mat x4) (fCol k) := by
  have h := pay3_apply x0 x3 x4 r
  unfold k0_pay6
  generalize k0_pay3 (F := Ideal) (View.ld x3 r0_0) (View.ld x0 r0_1) (View.ld x4 r0_2) = y at h ⊢
  pointwise []
  rw [h]
  rfl

/-- The eight rows before a block, normalised. -/
theorem pay7_apply (x1 : Vec Ideal S8x1024 .f32) (x3 : Vec Ideal S1x1024 .f32) (r : Fin 8) (c : Fin 1024) :
    k0_pay7 (F := Ideal) (View.ld x3 r0_0) (View.ld x1 r0_4) (ix2 r c) = normed (rowOf x3 0) (rowOf x1 r) c := by
  pointwise [k0_pay7, k0_pay2, r0_0, r0_4]
  rfl

/-- The convolution's input at the last row before a block. -/
theorem pay8_prev (x1 x2 : Vec Ideal S8x1024 .f32) (x3 : Vec Ideal S1x1024 .f32) (x4 : Vec Ideal S1024x2048 .bf16) (k : Fin 512) :
    k0_pay8 (F := Ideal) (k0_pay2 (View.ld x3 r0_0)) (k0_pay7 (View.ld x3 r0_0) (View.ld x1 r0_4)) (View.ld x2 r0_4) (View.ld x4 r0_5)
        (ix2 7 k)
      = prod (rowOf x3 0) (rowOf x1 7) (mat x4) k := by
  have h := pay7_apply x1 x3
  unfold k0_pay8
  generalize k0_pay7 (F := Ideal) (View.ld x3 r0_0) (View.ld x1 r0_4) = y at h ⊢
  pointwise [k0_pay2, r0_0, r0_4, r0_5]
  simp [h]
  refine congrArg₂ (· * ·) rfl (Finset.sum_congr rfl fun j _ => congrArg _ (congrArg x4 (congrArg (ix2 j) (Fin.ext ?_))))
  change 512 + (512 + k.val) = 1024 + k.val
  omega

/-- The convolution's input at the first row after a block. -/
theorem pay8_next (x1 x2 : Vec Ideal S8x1024 .f32) (x3 : Vec Ideal S1x1024 .f32) (x4 : Vec Ideal S1024x2048 .bf16) (k : Fin 512) :
    k0_pay8 (F := Ideal) (k0_pay2 (View.ld x3 r0_0)) (k0_pay7 (View.ld x3 r0_0) (View.ld x1 r0_4)) (View.ld x2 r0_4) (View.ld x4 r0_5)
        (ix2 8 k)
      = prod (rowOf x3 0) (rowOf x2 0) (mat x4) k := by
  have h := pay7_apply x1 x3
  unfold k0_pay8
  generalize k0_pay7 (F := Ideal) (View.ld x3 r0_0) (View.ld x1 r0_4) = y at h ⊢
  pointwise [k0_pay2, r0_0, r0_4, r0_5]
  refine congrArg₂ (· * ·) rfl (Finset.sum_congr rfl fun j _ => congrArg _ (congrArg x4 (congrArg (ix2 j) (Fin.ext ?_))))
  change 512 + (512 + k.val) = 1024 + k.val
  omega

/-- A select on an equality of two small numbers. -/
theorem select_eq_nat (n k : ℕ) (hn : n < 2 ^ 32) (hk : k < 2 ^ 32) (a b : EReal) :
    Scalar.select (IntOp.cmpi .eq (BitVec.ofNat 32 n) (BitVec.ofNat 32 k)) a b = if n = k then a else b := by
  have h : (BitVec.ofNat 32 n = BitVec.ofNat 32 k) ↔ n = k := by
    rw [← BitVec.toNat_inj, BitVec.toNat_ofNat, BitVec.toNat_ofNat, Nat.mod_eq_of_lt hn, Nat.mod_eq_of_lt hk]
  by_cases e : n = k
  · subst e
    simp [Scalar.select, IntOp.cmpi]
  · have hf : (BitVec.ofNat 32 n == BitVec.ofNat 32 k) = false := beq_eq_false_iff_ne.2 fun q => e (h.1 q)
    simp only [Scalar.select, IntOp.cmpi, hf, if_neg e]
    rfl

/-- The row before row `r` of a block, around its end. -/
def before (r : Fin 512) : Fin 512 := ⟨(r.val + 512 - 1) % 512, Nat.mod_lt _ (by decide)⟩

/-- The row after row `r` of a block, around its end. -/
def after (r : Fin 512) : Fin 512 := ⟨(r.val + 512 - 511) % 512, Nat.mod_lt _ (by decide)⟩

section Row

variable (i : grid0.Coords) (x0 : Vec Ideal S512x1024 .f32) (x1 x2 : Vec Ideal S8x1024 .f32) (x3 : Vec Ideal S1x1024 .f32)
  (x4 : Vec Ideal S1024x2048 .bf16) (x5 : Vec Ideal S3x512 .f32) (x6 x7 : Vec Ideal S1x512 .f32) (x8 : Vec Ideal S512x512 .bf16)
  (a : ℕ) (r k : Fin 512)

/-- The convolution's input one row up, as block `a` of its sequence finds it. -/
def upBlk : Fin 512 → EReal := fun k =>
  if r.val = 0 then if a = 0 then 0 else prod (rowOf x3 0) (rowOf x1 7) (mat x4) k
  else prod (rowOf x3 0) (rowOf x0 (before r)) (mat x4) k

/-- The convolution's input one row down, as block `a` of its sequence finds it. -/
def dnBlk : Fin 512 → EReal := fun k =>
  if r.val = 511 then if a = 7 then 0 else prod (rowOf x3 0) (rowOf x2 0) (mat x4) k
  else prod (rowOf x3 0) (rowOf x0 (after r)) (mat x4) k

/-- The body's row above. -/
theorem up_apply (ha : a < 2 ^ 32) :
    k0_pay9 (F := Ideal) (BitVec.ofNat 32 a) (k0_pay2 (View.ld x3 r0_0)) (k0_pay5 (View.ld x3 r0_0) (View.ld x0 r0_1) (View.ld x4 r0_2))
        (k0_pay7 (View.ld x3 r0_0) (View.ld x1 r0_4)) (View.ld x2 r0_4) (View.ld x4 r0_5) (ix2 r k)
      = upBlk x0 x1 x3 x4 a r k := by
  have h8 := pay8_prev x1 x2 x3 x4 k
  have h5 := fun r => pay5_apply x0 x3 x4 r k
  unfold k0_pay9
  generalize k0_pay8 (F := Ideal) (k0_pay2 (View.ld x3 r0_0)) (k0_pay7 (View.ld x3 r0_0) (View.ld x1 r0_4)) (View.ld x2 r0_4)
    (View.ld x4 r0_5) = y at h8 ⊢
  generalize k0_pay5 (F := Ideal) (View.ld x3 r0_0) (View.ld x0 r0_1) (View.ld x4 r0_2) = z at h5 ⊢
  pointwise []
  refine (select_eq_nat r.val 0 (by omega) (by decide) _ _).trans ?_
  unfold upBlk
  refine if_congr Iff.rfl ((select_eq_nat a 0 ha (by decide) _ _).trans (if_congr Iff.rfl rfl h8)) (h5 _)

/-- The body's row below. -/
theorem dn_apply (ha : a < 2 ^ 32) :
    Scalar.select (k0_pay10 (ix2 r k))
        (k0_pay12 (F := Ideal) (BitVec.ofNat 32 a) (k0_pay2 (View.ld x3 r0_0)) (k0_pay7 (View.ld x3 r0_0) (View.ld x1 r0_4))
          (View.ld x2 r0_4) (View.ld x4 r0_5) (ix2 r k))
        (k0_pay11 (k0_pay5 (View.ld x3 r0_0) (View.ld x0 r0_1) (View.ld x4 r0_2)) (ix2 r k))
      = dnBlk x0 x2 x3 x4 a r k := by
  have h8 := pay8_next x1 x2 x3 x4 k
  have h5 := fun r => pay5_apply x0 x3 x4 r k
  unfold k0_pay12 k0_pay11 k0_pay10
  generalize k0_pay8 (F := Ideal) (k0_pay2 (View.ld x3 r0_0)) (k0_pay7 (View.ld x3 r0_0) (View.ld x1 r0_4)) (View.ld x2 r0_4)
    (View.ld x4 r0_5) = y at h8 ⊢
  generalize k0_pay5 (F := Ideal) (View.ld x3 r0_0) (View.ld x0 r0_1) (View.ld x4 r0_2) = z at h5 ⊢
  pointwise []
  refine (select_eq_nat r.val 511 (by omega) (by decide) _ _).trans ?_
  unfold dnBlk
  refine if_congr Iff.rfl ((select_eq_nat a 7 ha (by decide) _ _).trans (if_congr Iff.rfl rfl h8)) (h5 _)

/-- The gated convolution normalised by heads, from the rows it reads. -/
theorem pay1_apply (b mid up : FVec Ideal S512x512 .f32) (e : IVec S512x512 1) (d1 d2 : FVec Ideal S512x512 .f32)
    (hx8 : ∀ j k : Fin 512, x8 (ix2 j k) = if j.val / 64 = k.val / 64 then Ideal.ofBits .f32 0x3C800000#32 else 0) :
    k0_pay1 (F := Ideal) b mid up e d1 d2 (View.ld x5 r0_6) (View.ld x5 r0_7) (View.ld x5 r0_8) (View.ld x6 r0_9) (View.ld x8 r0_3)
        (View.ld x7 r0_9) (ix2 r k)
      = headNormed (rowOf x7 0) (fun k => rowOf b r k * conv (mat x5) (rowOf x6 0) (rowOf up r) (rowOf mid r)
          (fun k => Scalar.select (e (ix2 r k)) (d2 (ix2 r k)) (d1 (ix2 r k))) k) k := by
  pointwise [k0_pay1, r0_6, r0_7, r0_8, r0_9, r0_3]
  rw [headNormed_eq]
  simp only [hx8]
  rfl

/-- What the body stores of the convolution's half. -/
theorem out0_9_apply (hx8 : ∀ j k : Fin 512, x8 (ix2 j k) = if j.val / 64 = k.val / 64 then Ideal.ofBits .f32 0x3C800000#32 else 0) :
    out0_9 (F := Ideal) i x0 x1 x2 x3 x4 x5 x6 x7 x8 (ix2 r k)
      = convRow (mat x4) (rowOf x3 0) (rowOf x0 r) (mat x5) (rowOf x6 0) (rowOf x7 0) (upBlk x0 x1 x3 x4 (i 1).val r)
          (dnBlk x0 x2 x3 x4 (i 1).val r) k := by
  have ha : (i 1).val < 2 ^ 32 := lt_trans (i 1).isLt (by decide)
  refine Eq.trans (congrFun (View.canon_unit_zero offsets_zero _ _) _) ?_
  refine (pay1_apply x5 x6 x7 x8 r k _ _ _ _ _ _ hx8).trans ?_
  unfold convRow k0_pay15 k0_pay14 k0_pay13
  have h1 : rowOf (k0_pay4 (F := Ideal) (View.ld x3 r0_0) (View.ld x0 r0_1) (View.ld x4 r0_2)) r
      = fun k => proj (rowOf x3 0) (rowOf x0 r) (mat x4) (gateCol k) := funext fun k => pay4_apply x0 x3 x4 r k
  have h2 : rowOf (k0_pay5 (F := Ideal) (View.ld x3 r0_0) (View.ld x0 r0_1) (View.ld x4 r0_2)) r
      = prod (rowOf x3 0) (rowOf x0 r) (mat x4) := funext fun k => pay5_apply x0 x3 x4 r k
  have h3 := funext fun k => up_apply x0 x1 x2 x3 x4 (i 1).val r k ha
  have h4 := funext fun k => dn_apply x0 x1 x2 x3 x4 (i 1).val r k ha
  rw [h1, h2]
  refine congrArg (fun y => headNormed (rowOf x7 0) y k) (funext fun k => congrArg _ ?_)
  exact congrArg₂ (fun u d => conv (mat x5) (rowOf x6 0) u _ d k) h3 h4

/-- What the body stores of the Fourier half. -/
theorem out0_10_apply :
    out0_10 (F := Ideal) i x0 x1 x2 x3 x4 x5 x6 x7 x8 (ix2 r k) = proj (rowOf x3 0) (rowOf x0 r) (mat x4) (fCol k) := by
  refine Eq.trans (congrFun (View.canon_unit_zero offsets_zero _ _) _) ?_
  exact pay6_apply x0 x3 x4 r k

end Row

end Cert.MixerIn

end
-- ==== Proof.MixerIn.Array.lean ====
/- The mixer input half's two results as whole arrays: every block a grid point writes is the functions of Spec on the rows
   of that block and their neighbours, and the blocks fill the arrays. -/
module

public import proofs.«01_k».proof.Proof.Gen.Kernel3Ideal.Value
public import Idealize.ShloMosaic.Lib.Pipeline.ValueKit
public import proofs.«01_k».proof.Proof.MixerIn.Block

@[expose] public section

set_option maxRecDepth 16384

noncomputable section

namespace Cert.MixerIn

open Cert.Kernel3Ideal Cert.Kernel3Ideal.Gen Idealize.ShloMosaic Idealize.ShloMosaic.TcCoe Idealize.ShloMosaic.Tactic
open Idealize.ShloMosaic.Pipeline (Dat Cfg Window)
open Cert.Trunk

/-! ## The rows, token by token -/

/-- The token before. -/
def prev (R : Fin 16384) : Fin 16384 := ⟨R.val - 1, by omega⟩

/-- The token after. -/
def next (R : Fin 16384) : Fin 16384 := ⟨(R.val + 1) % 16384, by omega⟩

section Rows

variable (x : S16384x1024.Idx → EReal) (g : S1024.Idx → EReal) (W : S1024x2048.Idx → EReal) (w : S3x512.Idx → EReal)
  (β hg : S512.Idx → EReal) (R : Fin 16384)

/-- The convolution's input at the token before, zero before a sequence's first. -/
def tokUp : Fin 512 → EReal := fun k =>
  if R.val % 4096 = 0 then 0 else prod (fun k => g (ix1 k)) (rowOf x (prev R)) (mat W) k

/-- The convolution's input at the token after, zero after a sequence's last. -/
def tokDn : Fin 512 → EReal := fun k =>
  if R.val % 4096 = 4095 then 0 else prod (fun k => g (ix1 k)) (rowOf x (next R)) (mat W) k

/-- Token `R` of the convolution's half. -/
def tokConv : Fin 512 → EReal :=
  convRow (mat W) (fun k => g (ix1 k)) (rowOf x R) (mat w) (fun k => β (ix1 k)) (fun k => hg (ix1 k)) (tokUp x g W R) (tokDn x g W R)

/-- Token `R` of the Fourier half. -/
def tokFourier : Fin 512 → EReal := fun k => proj (fun k => g (ix1 k)) (rowOf x R) (mat W) (fCol k)

end Rows

variable (m : (ℓ : Loc nD τ sig) → Buf (Elt Ideal) ℓ) (c : Dev nD)

/-! ## What the region finds in the arrays the host prepared -/

/-- The gain, as a row. -/
theorem V_v6 (k : Fin 1024) : (V m c main_v6 : S1x1024.Idx → EReal) (ix2 0 k) = m ((c : Thread nD τ).loc main_arg1) (ix1 k) := by
  have : V m c main_v6 = (shapeCast S1x1024 (m ((c : Thread nD τ).loc main_arg1)) shapeCasts_S1024_S1x1024 : S1x1024.Idx → EReal) := by
    simp only [V, hostOps0, hostOps0_1, hostOps0_2, List.flatten_cons, List.flatten_nil, List.append_nil, List.cons_append, List.nil_append]
    after_results
    rfl
  rw [this]
  pointwise []

/-- The projection's weights. -/
theorem V_v7 (i : S1024x2048.Idx) : (V m c main_v7 : S1024x2048.Idx → EReal) i = m ((c : Thread nD τ).loc main_arg2) i := by
  have : V m c main_v7 = (fun i => m ((c : Thread nD τ).loc main_arg2) i : S1024x2048.Idx → EReal) := by
    simp only [V, hostOps0, hostOps0_1, hostOps0_2, List.flatten_cons, List.flatten_nil, List.append_nil, List.cons_append, List.nil_append]
    after_results
    rfl
  rw [this]

/-- The convolution's bias, as a row. -/
theorem V_v8 (k : Fin 512) : (V m c main_v8 : S1x512.Idx → EReal) (ix2 0 k) = m ((c : Thread nD τ).loc main_arg4) (ix1 k) := by
  have : V m c main_v8 = (shapeCast S1x512 (m ((c : Thread nD τ).loc main_arg4)) shapeCasts_S512_S1x512 : S1x512.Idx → EReal) := by
    simp only [V, hostOps0, hostOps0_1, hostOps0_2, List.flatten_cons, List.flatten_nil, List.append_nil, List.cons_append, List.nil_append]
    after_results
    rfl
  rw [this]
  pointwise []

/-- The heads' gain, as a row. -/
theorem V_v9 (k : Fin 512) : (V m c main_v9 : S1x512.Idx → EReal) (ix2 0 k) = m ((c : Thread nD τ).loc main_arg5) (ix1 k) := by
  have : V m c main_v9 = (shapeCast S1x512 (m ((c : Thread nD τ).loc main_arg5)) shapeCasts_S512_S1x512 : S1x512.Idx → EReal) := by
    simp only [V, hostOps0, hostOps0_1, hostOps0_2, List.flatten_cons, List.flatten_nil, List.append_nil, List.cons_append, List.nil_append]
    after_results
    rfl
  rw [this]
  pointwise []

/-- The matrix that averages within heads, as the host builds it. -/
def means : S512x512.Idx → EReal :=
  shapeCast S512x512 (select (cmpi .eq (iotaInDim S8x64x8x64 32 0) (iotaInDim S8x64x8x64 32 2))
    (broadcastInDim S8x64x8x64 ![] bcast_S_S8x64x8x64 (constant (F := Ideal) S_ .f32 0x3C800000#32))
    (broadcastInDim S8x64x8x64 ![] bcast_S_S8x64x8x64 (constant (F := Ideal) S_ .f32 0x00000000#32))) shapeCasts_S8x64x8x64_S512x512

/-- The region finds that matrix. -/
theorem V_v5 : (V m c main_v5 : S512x512.Idx → EReal) = means := by
  simp only [V, hostOps0, hostOps0_1, hostOps0_2, List.flatten_cons, List.flatten_nil, List.append_nil, List.cons_append, List.nil_append]
  after_results
  rfl

/-- Its entries: one sixty-fourth within a head, zero elsewhere. -/
theorem means_apply (j k : Fin 512) : means (ix2 j k) = if j.val / 64 = k.val / 64 then Ideal.ofBits .f32 0x3C800000#32 else 0 := by
  pointwise [means]
  exact select_eq_nat _ _ (by omega) (by omega) _ _

/-! ## Where the blocks lie -/

/-- The block window 0 is at, at each grid point. -/
theorem index_0 : ∀ t : Fin cfg0.N, win0_0.index t = ![t.val, 0] := (by decide +kernel : ∀ t : Fin grid0.N, _)
/-- The block window 1 is at: the eight rows that end where the point's block begins. -/
theorem index_1 : ∀ t : Fin cfg0.N, win0_1.index t = ![64 * t.val - 1, 0] := (by decide +kernel : ∀ t : Fin grid0.N, _)
/-- The block window 2 is at: the eight rows that begin where the point's block ends. -/
theorem index_2 : ∀ t : Fin cfg0.N, win0_2.index t = ![min (64 * (t.val + 1)) 2047, 0] := (by decide +kernel : ∀ t : Fin grid0.N, _)
/-- The block window 3 is at, at each grid point. -/
theorem index_3 : ∀ t : Fin cfg0.N, win0_3.index t = ![0, 0] := (by decide +kernel : ∀ t : Fin grid0.N, _)
/-- The block window 4 is at, at each grid point. -/
theorem index_4 : ∀ t : Fin cfg0.N, win0_4.index t = ![0, 0] := (by decide +kernel : ∀ t : Fin grid0.N, _)
/-- The block window 5 is at, at each grid point. -/
theorem index_5 : ∀ t : Fin cfg0.N, win0_5.index t = ![0, 0] := (by decide +kernel : ∀ t : Fin grid0.N, _)
/-- The block window 6 is at, at each grid point. -/
theorem index_6 : ∀ t : Fin cfg0.N, win0_6.index t = ![0, 0] := (by decide +kernel : ∀ t : Fin grid0.N, _)
/-- The block window 7 is at, at each grid point. -/
theorem index_7 : ∀ t : Fin cfg0.N, win0_7.index t = ![0, 0] := (by decide +kernel : ∀ t : Fin grid0.N, _)
/-- The block window 8 is at, at each grid point. -/
theorem index_8 : ∀ t : Fin cfg0.N, win0_8.index t = ![0, 0] := (by decide +kernel : ∀ t : Fin grid0.N, _)
/-- The block window 9 is at, at each grid point. -/
theorem index_9 : ∀ t : Fin cfg0.N, win0_9.index t = ![t.val, 0] := (by decide +kernel : ∀ t : Fin grid0.N, _)
/-- The block window 10 is at, at each grid point. -/
theorem index_10 : ∀ t : Fin cfg0.N, win0_10.index t = ![t.val, 0] := (by decide +kernel : ∀ t : Fin grid0.N, _)
/-- The block's number within its sequence. -/
theorem coord_1 : ∀ t : Fin cfg0.N, (grid0.coords t 1).val = t.val % 8 := (by decide +kernel : ∀ t : Fin grid0.N, _)

/-- The rows of block `t`. -/
theorem blk_0 (t : Fin cfg0.N) (r : Fin 512) (k : Fin 1024) :
    (iblk m c 0 t : S512x1024.Idx → EReal) (ix2 r k) = m ((c : Thread nD τ).loc main_arg0) (ix2 (tok t r) k) := by
  blk_simp [iblk]
  rw [V_main_arg0]
  congr 1
  blk_ext [index_0, tok]

/-- The row before block `t`. -/
theorem blk_1 (t : Fin cfg0.N) (ht : 0 < t.val) (k : Fin 1024) :
    (iblk m c 1 t : S8x1024.Idx → EReal) (ix2 7 k) = m ((c : Thread nD τ).loc main_arg0) (ix2 (prev (tok t 0)) k) := by
  blk_simp [iblk]
  rw [V_main_arg0]
  congr 1
  blk_ext [index_1, tok, prev]

/-- The row after block `t`. -/
theorem blk_2 (t : Fin cfg0.N) (ht : t.val < 31) (k : Fin 1024) :
    (iblk m c 2 t : S8x1024.Idx → EReal) (ix2 0 k) = m ((c : Thread nD τ).loc main_arg0) (ix2 (next (tok t 511)) k) := by
  blk_simp [iblk]
  rw [V_main_arg0]
  congr 1
  blk_ext [index_2, tok, next]

/-- The gain, whole at every point. -/
theorem blk_3 (t : Fin cfg0.N) (k : Fin 1024) :
    (iblk m c 3 t : S1x1024.Idx → EReal) (ix2 0 k) = m ((c : Thread nD τ).loc main_arg1) (ix1 k) := by
  rw [← V_v6 m c]
  blk_simp [iblk]
  congr 1
  blk_ext [index_3]

/-- The projection's weights, whole at every point. -/
theorem blk_4 (t : Fin cfg0.N) (j : Fin 1024) (k : Fin 2048) :
    (iblk m c 4 t : S1024x2048.Idx → EReal) (ix2 j k) = m ((c : Thread nD τ).loc main_arg2) (ix2 j k) := by
  blk_simp [iblk]
  rw [V_v7]
  congr 1
  blk_ext [index_4]

/-- The taps, whole at every point. -/
theorem blk_5 (t : Fin cfg0.N) (j : Fin 3) (k : Fin 512) :
    (iblk m c 5 t : S3x512.Idx → EReal) (ix2 j k) = m ((c : Thread nD τ).loc main_arg3) (ix2 j k) := by
  blk_simp [iblk]
  rw [V_main_arg3]
  congr 1
  blk_ext [index_5]

/-- The bias, whole at every point. -/
theorem blk_6 (t : Fin cfg0.N) (k : Fin 512) :
    (iblk m c 6 t : S1x512.Idx → EReal) (ix2 0 k) = m ((c : Thread nD τ).loc main_arg4) (ix1 k) := by
  rw [← V_v8 m c]
  blk_simp [iblk]
  congr 1
  blk_ext [index_6]

/-- The heads' gain, whole at every point. -/
theorem blk_7 (t : Fin cfg0.N) (k : Fin 512) :
    (iblk m c 7 t : S1x512.Idx → EReal) (ix2 0 k) = m ((c : Thread nD τ).loc main_arg5) (ix1 k) := by
  rw [← V_v9 m c]
  blk_simp [iblk]
  congr 1
  blk_ext [index_7]

/-- The averaging matrix, whole at every point. -/
theorem blk_8 (t : Fin cfg0.N) (j k : Fin 512) :
    (iblk m c 8 t : S512x512.Idx → EReal) (ix2 j k) = if j.val / 64 = k.val / 64 then Ideal.ofBits .f32 0x3C800000#32 else 0 := by
  rw [← means_apply, ← V_v5 m c]
  blk_simp [iblk]
  congr 1
  blk_ext [index_8]

/-! ## The blocks and the arrays -/

section Blocks

variable (t : Fin cfg0.N) (r k : Fin 512)

/-- The gain as the functions of Spec read it. -/
theorem row_3 : rowOf (iblk m c 3 t : S1x1024.Idx → EReal) 0 = fun k => m ((c : Thread nD τ).loc main_arg1) (ix1 k) :=
  funext fun k => blk_3 m c t k

/-- The weights as the functions of Spec read them. -/
theorem mat_4 : mat (iblk m c 4 t : S1024x2048.Idx → EReal) = mat (m ((c : Thread nD τ).loc main_arg2)) :=
  funext fun j => funext fun k => blk_4 m c t j k

/-- The row above, read from the block and its neighbours. -/
theorem up_blk : upBlk (iblk m c 0 t) (iblk m c 1 t) (iblk m c 3 t) (iblk m c 4 t) (grid0.coords t 1).val r
    = tokUp (m ((c : Thread nD τ).loc main_arg0)) (m ((c : Thread nD τ).loc main_arg1)) (m ((c : Thread nD τ).loc main_arg2)) (tok t r) := by
  funext k
  have ht : t.val < 32 := t.isLt
  unfold upBlk tokUp
  rw [row_3, mat_4, coord_1]
  by_cases hr : r.val = 0
  · obtain rfl : r = 0 := Fin.ext hr
    rw [if_pos hr]
    refine if_ctx_congr (by change _ ↔ (512 * t.val + 0) % 4096 = 0; omega) (fun _ => rfl) fun h => ?_
    have e : rowOf (iblk m c 1 t : S8x1024.Idx → EReal) 7 = rowOf (m ((c : Thread nD τ).loc main_arg0)) (prev (tok t 0)) :=
      funext fun k => blk_1 m c t (by change ¬ (512 * t.val + 0) % 4096 = 0 at h; omega) k
    rw [e]
  · have hr' : r.val < 512 := r.isLt
    rw [if_neg hr, if_neg (by change ¬ (512 * t.val + r.val) % 4096 = 0; omega)]
    have e : rowOf (iblk m c 0 t : S512x1024.Idx → EReal) (before r) = rowOf (m ((c : Thread nD τ).loc main_arg0)) (prev (tok t r)) :=
      funext fun k => (blk_0 m c t (before r) k).trans (congrArg (fun R => m ((c : Thread nD τ).loc main_arg0) (ix2 R k)) (Fin.ext (by
        change 512 * t.val + (r.val + 512 - 1) % 512 = 512 * t.val + r.val - 1
        omega)))
    rw [e]

/-- The row below, read from the block and its neighbours. -/
theorem dn_blk : dnBlk (iblk m c 0 t) (iblk m c 2 t) (iblk m c 3 t) (iblk m c 4 t) (grid0.coords t 1).val r
    = tokDn (m ((c : Thread nD τ).loc main_arg0)) (m ((c : Thread nD τ).loc main_arg1)) (m ((c : Thread nD τ).loc main_arg2)) (tok t r) := by
  funext k
  have ht : t.val < 32 := t.isLt
  unfold dnBlk tokDn
  rw [row_3, mat_4, coord_1]
  by_cases hr : r.val = 511
  · obtain rfl : r = 511 := Fin.ext hr
    rw [if_pos hr]
    refine if_ctx_congr (by change _ ↔ (512 * t.val + 511) % 4096 = 4095; omega) (fun _ => rfl) fun h => ?_
    have e : rowOf (iblk m c 2 t : S8x1024.Idx → EReal) 0 = rowOf (m ((c : Thread nD τ).loc main_arg0)) (next (tok t 511)) :=
      funext fun k => blk_2 m c t (by change ¬ (512 * t.val + 511) % 4096 = 4095 at h; omega) k
    rw [e]
  · have hr' : r.val < 512 := r.isLt
    rw [if_neg hr, if_neg (by change ¬ (512 * t.val + r.val) % 4096 = 4095; omega)]
    have e : rowOf (iblk m c 0 t : S512x1024.Idx → EReal) (after r) = rowOf (m ((c : Thread nD τ).loc main_arg0)) (next (tok t r)) :=
      funext fun k => (blk_0 m c t (after r) k).trans (congrArg (fun R => m ((c : Thread nD τ).loc main_arg0) (ix2 R k)) (Fin.ext (by
        change 512 * t.val + (r.val + 512 - 511) % 512 = (512 * t.val + r.val + 1) % 16384
        omega)))
    rw [e]

/-- The first result's block at point `t`. -/
theorem blkOut_9 : out0_9 (grid0.coords t) (iblk m c 0 t) (iblk m c 1 t) (iblk m c 2 t) (iblk m c 3 t) (iblk m c 4 t) (iblk m c 5 t)
      (iblk m c 6 t) (iblk m c 7 t) (iblk m c 8 t) (ix2 r k)
    = tokConv (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (tok t r) k := by
  have h0 : rowOf (iblk m c 0 t : S512x1024.Idx → EReal) r = rowOf (m ((c : Thread nD τ).loc main_arg0)) (tok t r) :=
    funext fun k => blk_0 m c t r k
  have h5 : mat (iblk m c 5 t : S3x512.Idx → EReal) = mat (m ((c : Thread nD τ).loc main_arg3)) :=
    funext fun j => funext fun k => blk_5 m c t j k
  have h6 : rowOf (iblk m c 6 t : S1x512.Idx → EReal) 0 = fun k => m ((c : Thread nD τ).loc main_arg4) (ix1 k) :=
    funext fun k => blk_6 m c t k
  have h7 : rowOf (iblk m c 7 t : S1x512.Idx → EReal) 0 = fun k => m ((c : Thread nD τ).loc main_arg5) (ix1 k) :=
    funext fun k => blk_7 m c t k
  rw [out0_9_apply _ _ _ _ _ _ _ _ _ _ _ _ (fun j k => blk_8 m c t j k), up_blk, dn_blk, row_3, mat_4, h0, h5, h6, h7]
  rfl

/-- The second result's block at point `t`. -/
theorem blkOut_10 : out0_10 (grid0.coords t) (iblk m c 0 t) (iblk m c 1 t) (iblk m c 2 t) (iblk m c 3 t) (iblk m c 4 t) (iblk m c 5 t)
      (iblk m c 6 t) (iblk m c 7 t) (iblk m c 8 t) (ix2 r k)
    = tokFourier (m ((c : Thread nD τ).loc main_arg0)) (m ((c : Thread nD τ).loc main_arg1)) (m ((c : Thread nD τ).loc main_arg2))
        (tok t r) k := by
  have h0 : rowOf (iblk m c 0 t : S512x1024.Idx → EReal) r = rowOf (m ((c : Thread nD τ).loc main_arg0)) (tok t r) :=
    funext fun k => blk_0 m c t r k
  rw [out0_10_apply, row_3, mat_4, h0]
  rfl

end Blocks

/-- The first result after the run. -/
theorem arr_9 : (dats m 0 c).arrAt 9 cfg0.N = (fun i : S16384x512.Idx => tokConv
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)) := by
  refine (dats m 0 c).arrAt_eq_of_covers 9 _ (by decide +kernel) fun t _ y => ?_
  blk_simp
  rw [after0_9]
  refine (congrArg _ (ix2_eta (n0 := 512) (n1 := 512) y).symm).trans ((blkOut_9 m c t (y 0) (y 1)).trans ?_)
  have e0 : tok t (y 0) = ((win0_9.blk t).view.emb y : S16384x512.Idx) 0 :=
    Fin.ext (by blk_simp [index_9, tok]; exact congrArg (· + _) (Nat.mul_comm _ _))
  have e1 : y 1 = ((win0_9.blk t).view.emb y : S16384x512.Idx) 1 := Fin.ext (by blk_simp [index_9])
  exact congrArg₂ (tokConv _ _ _ _ _ _) e0 e1

/-- The second result after the run. -/
theorem arr_10 : (dats m 0 c).arrAt 10 cfg0.N = (fun i : S16384x512.Idx => tokFourier
    (m ((c : Thread nD τ).loc main_arg0)) (m ((c : Thread nD τ).loc main_arg1)) (m ((c : Thread nD τ).loc main_arg2)) (i 0) (i 1)) := by
  refine (dats m 0 c).arrAt_eq_of_covers 10 _ (by decide +kernel) fun t _ y => ?_
  blk_simp
  rw [after0_10]
  refine (congrArg _ (ix2_eta (n0 := 512) (n1 := 512) y).symm).trans ((blkOut_10 m c t (y 0) (y 1)).trans ?_)
  have e0 : tok t (y 0) = ((win0_10.blk t).view.emb y : S16384x512.Idx) 0 :=
    Fin.ext (by blk_simp [index_10, tok]; exact congrArg (· + _) (Nat.mul_comm _ _))
  have e1 : y 1 = ((win0_10.blk t).view.emb y : S16384x512.Idx) 1 := Fin.ext (by blk_simp [index_10])
  exact congrArg₂ (tokFourier _ _ _) e0 e1

end Cert.MixerIn

end
-- ==== Proof.MixerIn.Ref.lean ====
/- The plain program's values, row by row: each named value is the function of Spec that the kernel's blocks compute. -/
module

public import proofs.«01_k».proof.Proof.Gen.Reference3Ideal.Read
public import Idealize.ShloMosaic.Lib.Pointwise
public import Idealize.ShloMosaic.Lib.KernelVsHost
public import proofs.«01_k».proof.Proof.MixerIn.Array

@[expose] public section

noncomputable section

namespace Cert.MixerIn.Ref

open Cert.Reference3Ideal Cert.Reference3Ideal.Gen Idealize.ShloMosaic Cert.Trunk Cert.MixerIn
open Cert.Reference3Ideal.Read

variable (x0 : (⟨S16384x1024, .f32⟩ : BufTy).Contents (Elt Ideal)) (x1 : (⟨S1024, .f32⟩ : BufTy).Contents (Elt Ideal))
  (x2 : (⟨S1024x2048, .f32⟩ : BufTy).Contents (Elt Ideal)) (x3 : (⟨S3x512, .f32⟩ : BufTy).Contents (Elt Ideal))
  (x4 x5 : (⟨S512, .f32⟩ : BufTy).Contents (Elt Ideal)) (b : Fin 4) (s : Fin 4096)

/-- The normalised row. -/
theorem v13_apply (j : Fin 1024) : val_main_v13 (F := Ideal) x0 x1 (ix3 b s j)
    = normed (fun k => x1 (ix1 k)) (rowOf x0 (tokOf b s)) j := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

/-- The projection. -/
theorem v14_apply (k : Fin 2048) : val_main_v14 (F := Ideal) x0 x1 x2 (ix3 b s k)
    = proj (fun k => x1 (ix1 k)) (rowOf x0 (tokOf b s)) (mat x2) k := by
  have h := v13_apply x0 x1 b s
  unfold val_main_v14
  generalize val_main_v13 (F := Ideal) x0 x1 = y at h ⊢
  pointwise []
  simp only [h]
  rfl

/-- What the convolution runs over. -/
theorem v19_apply (k : Fin 512) : val_main_v19 (F := Ideal) x0 x1 x2 (ix3 b s k)
    = prod (fun k => x1 (ix1 k)) (rowOf x0 (tokOf b s)) (mat x2) k := by
  have h := v14_apply x0 x1 x2 b s
  unfold val_main_v19 val_main_v17 val_main_v16
  generalize val_main_v14 (F := Ideal) x0 x1 x2 = y at h ⊢
  pointwise []
  simp only [h]
  rfl

/-- The value the sequence is padded with. -/
theorem pad_value (i : S_.Idx) : val_main_call0_v0 (F := Ideal) i = (0 : EReal) := by
  change ((((0#32 : BitVec 32).toInt : ℤ) : ℝ) : EReal) = 0
  simp

/-- The padded array inside. -/
theorem v20_inside (q : Fin 4098) (hq : q.val = s.val + 1) (k : Fin 512) :
    val_main_v20 (F := Ideal) x0 x1 x2 (ix3 b q k) = prod (fun k => x1 (ix1 k)) (rowOf x0 (tokOf b s)) (mat x2) k := by
  unfold val_main_v20
  rw [pad_apply_of_inside _ _ _ _ _ _ _ (ix3 b q k) (ix3 b s k), v19_apply]
  intro a
  match a with
  | ⟨0, _⟩ => change b.val = 0 + b.val * (0 + 1); omega
  | ⟨1, _⟩ => change q.val = 1 + s.val * (0 + 1); omega
  | ⟨2, _⟩ => change k.val = 0 + k.val * (0 + 1); omega

/-- The padded array at its two ends. -/
theorem v20_ends (q : Fin 4098) (hq : q.val = 0 ∨ q.val = 4097) (k : Fin 512) :
    val_main_v20 (F := Ideal) x0 x1 x2 (ix3 b q k) = (0 : EReal) := by
  unfold val_main_v20
  rw [pad_apply_of_not_inside _ _ _ _ _ _ _ (ix3 b q k) 1, pad_value]
  change ¬ (1 ≤ q.val ∧ (q.val - 1) % (0 + 1) = 0 ∧ (q.val - 1) / (0 + 1) < 4096)
  omega

/-- The token's place in its sequence. -/
theorem tokOf_mod : (tokOf b s).val % 4096 = s.val := by
  change (b.val * 4096 + s.val) % 4096 = s.val
  omega

/-- The padded array one place up. -/
theorem up_apply (q : Fin 4098) (hq : q.val = s.val) (k : Fin 512) :
    val_main_v20 (F := Ideal) x0 x1 x2 (ix3 b q k) = tokUp x0 x1 x2 (tokOf b s) k := by
  unfold tokUp
  rw [tokOf_mod]
  by_cases h : s.val = 0
  · rw [if_pos h, v20_ends _ _ _ _ _ (.inl (hq.trans h))]
  · rw [if_neg h, v20_inside x0 x1 x2 b ⟨s.val - 1, by omega⟩ q (by change _ = s.val - 1 + 1; omega)]
    refine congrArg (fun R => prod _ (rowOf x0 R) _ k) (Fin.ext ?_)
    change b.val * 4096 + (s.val - 1) = b.val * 4096 + s.val - 1
    omega

/-- The padded array one place down. -/
theorem dn_apply (q : Fin 4098) (hq : q.val = s.val + 2) (k : Fin 512) :
    val_main_v20 (F := Ideal) x0 x1 x2 (ix3 b q k) = tokDn x0 x1 x2 (tokOf b s) k := by
  unfold tokDn
  rw [tokOf_mod]
  by_cases h : s.val = 4095
  · rw [if_pos h, v20_ends _ _ _ _ _ (.inr (by omega))]
  · rw [if_neg h, v20_inside x0 x1 x2 b ⟨s.val + 1, by omega⟩ q (by change _ = s.val + 1 + 1; omega)]
    refine congrArg (fun R => prod _ (rowOf x0 R) _ k) (Fin.ext ?_)
    change b.val * 4096 + (s.val + 1) = (b.val * 4096 + s.val + 1) % 16384
    omega

/-- The gated convolution of a token, before the normalisation by heads. -/
def gated (R : Fin 16384) : Fin 512 → EReal := fun k =>
  proj (fun k => x1 (ix1 k)) (rowOf x0 R) (mat x2) (gateCol k)
    * conv (mat x3) (fun k => x4 (ix1 k)) (tokUp x0 x1 x2 R) (prod (fun k => x1 (ix1 k)) (rowOf x0 R) (mat x2)) (tokDn x0 x1 x2 R) k

/-- The gated convolution. -/
theorem v44_apply (k : Fin 512) : val_main_v44 (F := Ideal) x0 x1 x2 x3 x4 (ix3 b s k) = gated x0 x1 x2 x3 x4 (tokOf b s) k := by
  have hu := fun q hq => up_apply x0 x1 x2 b s q hq k
  have hm := fun q hq => v20_inside x0 x1 x2 b s q hq k
  have hd := fun q hq => dn_apply x0 x1 x2 b s q hq k
  have h := v14_apply x0 x1 x2 b s
  unfold val_main_v44 val_main_v15 val_main_v43 val_main_v40 val_main_v33 val_main_v26 val_main_v39 val_main_v32
    val_main_v23 val_main_v29 val_main_v36
  generalize val_main_v20 (F := Ideal) x0 x1 x2 = y at hu hm hd ⊢
  generalize val_main_v14 (F := Ideal) x0 x1 x2 = z at h ⊢
  pointwise [val_main_v21, val_main_v22, val_main_v24, val_main_v25, val_main_v27, val_main_v28, val_main_v30, val_main_v31,
    val_main_v34, val_main_v35, val_main_v37, val_main_v38, val_main_v41, val_main_v42]
  refine congrArg₂ (· * ·) (h (gateCol k)) ?_
  unfold conv
  refine congrArg₂ (· + ·) (congrArg₂ (· + ·) (congrArg₂ (· + ·) ?_ ?_) ?_) rfl
  · exact congrArg _ (hu _ rfl)
  · exact congrArg _ (hm _ (Nat.add_comm _ _))
  · exact congrArg _ (hd _ (Nat.add_comm _ _))

/-- The convolution's half, by heads. -/
theorem v59_apply (h : Fin 8) (d : Fin 64) (k : Fin 512) (hk : k.val = h.val * 64 + d.val) :
    val_main_v59 (F := Ideal) x0 x1 x2 x3 x4 x5 (ix4 b s h d) = tokConv x0 x1 x2 x3 x4 x5 (tokOf b s) k := by
  have hy := v44_apply x0 x1 x2 x3 x4 b s
  unfold val_main_v59 val_main_v56 val_main_v55 val_main_v54 val_main_v53 val_main_v51 val_main_v49 val_main_v48 val_main_v47 val_main_v45
  generalize val_main_v44 (F := Ideal) x0 x1 x2 x3 x4 = y at hy ⊢
  pointwise [val_main_v46, val_main_v50, val_main_v52, val_main_v57, val_main_v58, val_main_cst_2, val_main_cst_3, val_main_cst_4]
  have hb : h.val * 64 + d.val < 512 := hk ▸ k.isLt
  have ek : k = ⟨h.val * 64 + d.val, hb⟩ := Fin.ext hk
  clear hk
  subst ek
  simp only [hy]
  change _ = headNormed (fun k => x5 (ix1 k)) (gated x0 x1 x2 x3 x4 (tokOf b s)) _
  unfold headNormed
  refine congrArg₂ (· * ·) (congrArg₂ (· * ·) rfl (congrArg Ideal.rsqrt (congrArg₂ (· + ·) (congrArg₂ Ideal.div ?_ rfl) rfl))) rfl
  refine Finset.sum_congr rfl fun e _ => ?_
  have he : (⟨h.val * 64 + e.val, by omega⟩ : Fin 512) = chan ⟨h.val * 64 + d.val, hb⟩ e := Fin.ext (by
    change h.val * 64 + e.val = 64 * ((h.val * 64 + d.val) / 64) + e.val
    omega)
  rw [he]

/-- The first result. -/
theorem v61_apply (R : Fin 16384) (k : Fin 512) :
    val_main_v61 (F := Ideal) x0 x1 x2 x3 x4 x5 (ix2 R k) = tokConv x0 x1 x2 x3 x4 x5 R k := by
  have h := fun b s h d => v59_apply x0 x1 x2 x3 x4 x5 b s h d k
  unfold val_main_v61 val_main_v60
  generalize val_main_v59 (F := Ideal) x0 x1 x2 x3 x4 x5 = y at h ⊢
  pointwise []
  rw [h _ _ _ _ (by change k.val = k.val / 64 * 64 + k.val % 64; omega), tokOf_div_mod]

/-- The second result. -/
theorem v63_apply (R : Fin 16384) (k : Fin 512) :
    val_main_v63 (F := Ideal) x0 x1 x2 (ix2 R k) = tokFourier x0 x1 x2 R k := by
  have h := fun b s => v14_apply x0 x1 x2 b s (fCol k)
  unfold val_main_v63 val_main_v62 val_main_v18
  generalize val_main_v14 (F := Ideal) x0 x1 x2 = y at h ⊢
  pointwise []
  refine (h _ _).trans ?_
  rw [tokOf_div_mod]
  rfl

end Cert.MixerIn.Ref

end
-- ==== Proof.MixerIn.Equation.lean ====
/- The mixer input half's claims: the two programs end at the same two arrays, and the plain program leaves its arguments
   alone. -/
module

public import proofs.«01_k».proof.Defs
public import proofs.«01_k».proof.Proof.Gen.Reference3Ideal.Run
public import Idealize.ShloMosaic.Lib.Quiescent
public import proofs.«01_k».proof.Proof.MixerIn.Ref

@[expose] public section

noncomputable section

namespace Cert.MixerIn

open Idealize.ShloMosaic Idealize.ShloMosaic.TcCoe Idealize.SL.Sem Cert.Trunk

/-- The plain program runs and leaves its arguments and every counter as they were. -/
theorem quiescent_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section Arrays

open Cert.Reference3Ideal Cert.Reference3Ideal.Read

/-- The plain program's first result, as the rows of Spec. -/
theorem ref_conv (m' : (ℓ : Loc Cert.Reference3Ideal.nD Cert.Reference3Ideal.τ Cert.Reference3Ideal.sig) → Buf (Elt Ideal) ℓ)
    (c : Dev Cert.Reference3Ideal.nD) : Cert.Reference3Ideal.Value.res_main_v61 m' c = (fun i : S16384x512.Idx => tokConv
        (m' ((c.tc : Thread _ _).loc main_arg0)) (m' ((c.tc : Thread _ _).loc main_arg1)) (m' ((c.tc : Thread _ _).loc main_arg2))
        (m' ((c.tc : Thread _ _).loc main_arg3)) (m' ((c.tc : Thread _ _).loc main_arg4)) (m' ((c.tc : Thread _ _).loc main_arg5))
        (i 0) (i 1)) := by
  rw [val_main_v61_eq]
  funext i
  exact (congrArg _ (ix2_eta (n0 := 16384) (n1 := 512) i).symm).trans (Ref.v61_apply _ _ _ _ _ _ (i 0) (i 1))

/-- The plain program's second result, as the rows of Spec. -/
theorem ref_fourier (x0 : (⟨S16384x1024, .f32⟩ : BufTy).Contents (Elt Ideal)) (x1 : (⟨S1024, .f32⟩ : BufTy).Contents (Elt Ideal))
    (x2 : (⟨S1024x2048, .f32⟩ : BufTy).Contents (Elt Ideal)) :
    val_main_v63 (F := Ideal) x0 x1 x2 = fun i : S16384x512.Idx => tokFourier x0 x1 x2 (i 0) (i 1) := by
  funext i
  exact (congrArg _ (ix2_eta (n0 := 16384) (n1 := 512) i).symm).trans (Ref.v63_apply _ _ _ (i 0) (i 1))

end Arrays

/-- The kernel's two results are the plain program's. -/
theorem algebraic : Cert.algebraic_Kernel3Ideal_Reference3Ideal := by
  intro m ρ m' ρ' _ hagree
  refine ⟨fun c => (Cert.Kernel3Ideal.Gen.dats m 0 c).arrAt 9 Cert.Kernel3Ideal.cfg0.N,
    fun c => (Cert.Kernel3Ideal.Gen.dats m 0 c).arrAt 10 Cert.Kernel3Ideal.cfg0.N,
    Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, h1, h2, h3, h4, h5⟩ := hagree c
  obtain ⟨r0, r1, hr⟩ := h c
  refine ⟨(r0.trans ?_).trans (arr_9 m c).symm,
    (r1.trans (Cert.Reference3Ideal.Read.val_main_v63_eq _ _ _)).trans (((ref_fourier _ _ _).trans ?_).trans (arr_10 m c).symm), hr⟩
  · refine (ref_conv m' c).trans ?_
    rw [h0, h1, h2, h3, h4, h5]
  · rw [h0, h1, h2]

end Cert.MixerIn

end
-- ==== Proof.Memory.Array.lean ====
/- The projection of the memory to keys and values: what the body computes on a block of columns, and the whole result. -/
module

public import proofs.«01_k».proof.Proof.Gen.Kernel4Ideal.Value
public import Idealize.ShloMosaic.Lib.Pipeline.ValueKit
public import proofs.«01_k».proof.Proof.Trunk.Spec

@[expose] public section

set_option maxRecDepth 16384

noncomputable section

namespace Cert.Memory

open Cert.Kernel4Ideal Cert.Kernel4Ideal.Gen Idealize.ShloMosaic Idealize.ShloMosaic.TcCoe Idealize.ShloMosaic.Tactic
open Idealize.ShloMosaic.Pipeline (Dat Cfg Window)
open Cert.Trunk

/-- One entry of the projection: memory row `R` normalised, against column `k` of the weights. -/
def kvAt (x : S1024x1024.Idx → EReal) (g : S1024.Idx → EReal) (w : S1024x2048.Idx → EReal) (R : Fin 1024) (k : Fin 2048) : EReal :=
  ∑ j, normed (fun i => g (ix1 i)) (rowOf x R) j * w (ix2 j k)

/-- What the body stores, from the memory rows, the row of gains and a block of columns of the weights. -/
theorem out0_3_apply (x0 : Vec Ideal S1024x1024 .f32) (x1 : Vec Ideal S1x1024 .f32) (x2 : Vec Ideal S1024x512 .f32)
    (r : Fin 1024) (k : Fin 512) :
    out0_3 (F := Ideal) x0 x1 x2 (ix2 r k) = ∑ j, normed (rowOf x1 0) (rowOf x0 r) j * x2 (ix2 j k) := by
  refine Eq.trans (congrFun (View.canon_unit_zero offsets_zero _ _) _) ?_
  pointwise [k0_pay1, r0_0, r0_1, r0_2]
  rfl

variable (m : (ℓ : Loc nD τ sig) → Buf (Elt Ideal) ℓ) (c : Dev nD)

/-- The gain, as a row. -/
theorem V_v0 (k : Fin 1024) : (V m c main_v0 : S1x1024.Idx → EReal) (ix2 0 k) = m ((c : Thread nD τ).loc main_arg1) (ix1 k) := by
  have : V m c main_v0 = (shapeCast S1x1024 (m ((c : Thread nD τ).loc main_arg1)) shapeCasts_S1024_S1x1024 : S1x1024.Idx → EReal) := by
    simp only [V, hostOps0, List.flatten_cons, List.flatten_nil, List.append_nil, List.cons_append, List.nil_append]
    after_results
    rfl
  rw [this]
  pointwise []

/-- The block window 0 is at, at each grid point. -/
theorem index_0 : ∀ t : Fin cfg0.N, win0_0.index t = ![0, 0] := (by decide +kernel : ∀ t : Fin grid0.N, _)
/-- The block window 1 is at, at each grid point. -/
theorem index_1 : ∀ t : Fin cfg0.N, win0_1.index t = ![0, 0] := (by decide +kernel : ∀ t : Fin grid0.N, _)
/-- The block window 2 is at, at each grid point. -/
theorem index_2 : ∀ t : Fin cfg0.N, win0_2.index t = ![0, t.val] := (by decide +kernel : ∀ t : Fin grid0.N, _)
/-- The block window 3 is at, at each grid point. -/
theorem index_3 : ∀ t : Fin cfg0.N, win0_3.index t = ![0, t.val] := (by decide +kernel : ∀ t : Fin grid0.N, _)

/-- Column `k` of block `t` in an array of four blocks of 512 columns. -/
def colAt (t : Fin 4) (k : Fin 512) : Fin 2048 := ⟨512 * t.val + k.val, by omega⟩

/-- The memory, whole at every point. -/
theorem blk_0 (t : Fin cfg0.N) (r k : Fin 1024) :
    (iblk m c 0 t : S1024x1024.Idx → EReal) (ix2 r k) = m ((c : Thread nD τ).loc main_arg0) (ix2 r k) := by
  blk_simp [iblk]
  rw [V_main_arg0]
  congr 1
  blk_ext [index_0]

/-- The gain, whole at every point. -/
theorem blk_1 (t : Fin cfg0.N) (k : Fin 1024) :
    (iblk m c 1 t : S1x1024.Idx → EReal) (ix2 0 k) = m ((c : Thread nD τ).loc main_arg1) (ix1 k) := by
  rw [← V_v0 m c]
  blk_simp [iblk]
  congr 1
  blk_ext [index_1]

/-- The weights' columns of block `t`. -/
theorem blk_2 (t : Fin cfg0.N) (j : Fin 1024) (k : Fin 512) :
    (iblk m c 2 t : S1024x512.Idx → EReal) (ix2 j k) = m ((c : Thread nD τ).loc main_arg2) (ix2 j (colAt t k)) := by
  blk_simp [iblk]
  rw [V_main_arg2]
  congr 1
  blk_ext [index_2, colAt]

/-- The result's block at point `t`. -/
theorem blkOut_3 (t : Fin cfg0.N) (r : Fin 1024) (k : Fin 512) :
    out0_3 (iblk m c 0 t) (iblk m c 1 t) (iblk m c 2 t) (ix2 r k)
      = kvAt (m ((c : Thread nD τ).loc main_arg0)) (m ((c : Thread nD τ).loc main_arg1)) (m ((c : Thread nD τ).loc main_arg2)) r (colAt t k) := by
  have h0 : rowOf (iblk m c 0 t) r = rowOf (m ((c : Thread nD τ).loc main_arg0)) r := funext fun k => blk_0 m c t r k
  have h1 : rowOf (iblk m c 1 t) 0 = fun k => m ((c : Thread nD τ).loc main_arg1) (ix1 k) := funext fun k => blk_1 m c t k
  rw [out0_3_apply, h0, h1]
  exact Finset.sum_congr rfl fun j _ => congrArg (_ * ·) (blk_2 m c t j k)

/-- The result after the run. -/
theorem arr_3 : (dats m 0 c).arrAt 3 cfg0.N = (fun i : S1024x2048.Idx => kvAt
    (m ((c : Thread nD τ).loc main_arg0)) (m ((c : Thread nD τ).loc main_arg1)) (m ((c : Thread nD τ).loc main_arg2)) (i 0) (i 1)) := by
  refine (dats m 0 c).arrAt_eq_of_covers 3 _ (by decide +kernel) fun t _ y => ?_
  blk_simp
  rw [after0_3]
  refine (congrArg _ (ix2_eta (n0 := 1024) (n1 := 512) y).symm).trans ((blkOut_3 m c t (y 0) (y 1)).trans ?_)
  have e0 : (y 0 : Fin 1024) = ((win0_3.blk t).view.emb y : S1024x2048.Idx) 0 := Fin.ext (by blk_simp [index_3])
  have e1 : colAt t (y 1) = ((win0_3.blk t).view.emb y : S1024x2048.Idx) 1 :=
    Fin.ext (by blk_simp [index_3, colAt]; exact congrArg (· + _) (Nat.mul_comm _ _))
  exact congrArg₂ (kvAt _ _ _) e0 e1

end Cert.Memory

end
-- ==== Proof.Memory.Equation.lean ====
/- The memory projection's claims: the plain program's result read entry by entry, and the equation. -/
module

public import proofs.«01_k».proof.Defs
public import proofs.«01_k».proof.Proof.Gen.Reference4Ideal.Run
public import proofs.«01_k».proof.Proof.Gen.Reference4Ideal.Read
public import Idealize.ShloMosaic.Lib.Pointwise
public import Idealize.ShloMosaic.Lib.Quiescent
public import proofs.«01_k».proof.Proof.Memory.Array

@[expose] public section

noncomputable section

namespace Cert.Memory

open Idealize.ShloMosaic Idealize.ShloMosaic.TcCoe Idealize.SL.Sem Cert.Trunk

/-- The plain program runs and leaves its arguments and every counter as they were. -/
theorem quiescent_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

section Value

open Cert.Reference4Ideal Cert.Reference4Ideal.Read

variable (x0 : (⟨S1024x1024, .f32⟩ : BufTy).Contents (Elt Ideal)) (x1 : (⟨S1024, .f32⟩ : BufTy).Contents (Elt Ideal))
  (x2 : (⟨S1024x2048, .f32⟩ : BufTy).Contents (Elt Ideal))

/-- The memory normalised. -/
theorem v12_apply (r j : Fin 1024) : val_main_v12 (F := Ideal) x0 x1 (ix2 r j) = normed (fun k => x1 (ix1 k)) (rowOf x0 r) j := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  rfl

/-- The plain program's result, entry by entry. -/
theorem v14_apply (r : Fin 1024) (k : Fin 2048) : val_main_v14 (F := Ideal) x0 x1 x2 (ix2 r k) = kvAt x0 x1 x2 r k := by
  have h := v12_apply x0 x1 r
  unfold val_main_v14 val_main_v13
  generalize val_main_v12 (F := Ideal) x0 x1 = y at h ⊢
  pointwise []
  simp only [h]
  rfl

/-- The plain program's result, as one array. -/
theorem v14_eq : val_main_v14 (F := Ideal) x0 x1 x2 = fun i : S1024x2048.Idx => kvAt x0 x1 x2 (i 0) (i 1) := by
  funext i
  exact (congrArg _ (ix2_eta (n0 := 1024) (n1 := 2048) i).symm).trans (v14_apply x0 x1 x2 (i 0) (i 1))

end Value

/-- The kernel's result is the plain program's. -/
theorem algebraic : Cert.algebraic_Kernel4Ideal_Reference4Ideal := by
  intro m ρ m' ρ' _ hagree
  refine ⟨fun c => (Cert.Kernel4Ideal.Gen.dats m 0 c).arrAt 3 Cert.Kernel4Ideal.cfg0.N, Cert.Kernel4Ideal.Value.run_blocks (F := Ideal) m ρ, ?_⟩
  refine (θ_run Cert.Reference4Ideal.defs _ _).mono (fun r h c => ?_) (Cert.Reference4Ideal.Value.run (F := Ideal) m' ρ')
  obtain ⟨h0, h1, h2⟩ := hagree c
  obtain ⟨r0, hr⟩ := h c
  refine ⟨(r0.trans (Cert.Reference4Ideal.Read.val_main_v14_eq _ _ _)).trans (((v14_eq _ _ _).trans ?_).trans (arr_3 m c).symm), hr⟩
  rw [h0, h1, h2]

end Cert.Memory

end
-- ==== Proof.Combine.Rows.lean ====
/- The combine call, its transfers: at each grid point 512 rows of the experts' rows are copied into the kernel's pages, two
   for every row of the block, on one semaphore. Here: the rows the transfers read and write, spelled as the body spells
   them, what each transfer hands back, and the batch of the 512. -/
module

public import proofs.«01_k».proof.Proof.Gen.Kernel5Ideal.Launch
public import proofs.«01_k».proof.Proof.Gen.Kernel5Ideal.Skeleton
public import Idealize.ShloMosaic.Lib.Pipeline.Quiescent
public import Idealize.ShloMosaic.Lib.Pipeline.Kit
public import Idealize.ShloMosaic.Lib.Pipeline.Frame
public import Idealize.ShloMosaic.Lib.Pipeline.FrameBody
public import Idealize.ShloMosaic.Lib.Pipeline.Value
public import Idealize.ShloMosaic.Lib.Pipeline.ValueKit
public import Idealize.ShloMosaic.Lib.Batch
public import Idealize.ShloMosaic.Lib.Writes
public import Idealize.ShloMosaic.Lib.Ring
public import Idealize.ShloMosaic.Lib.Exec
public import Idealize.ShloMosaic.Lib.WholeRead
public import Idealize.ShloMosaic.Lib.Tactic
public import Idealize.ShloMosaic.Lib.Claim

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The table of destinations, the experts' rows and the two pages, as the body is handed them. -/
abbrev destTab : Memref sig .tc .smem S32768 .i32 := Memref.whole main_arg0
abbrev rowsM : Memref sig .tc .hbm S40960x1024 .f32 := Memref.whole main_arg4
abbrev pagesM : Memref sig .tc .vmem S2x256x1024 .f32 := Memref.whole cc0_scratch0

/-- A memref's contents on core `c`. -/
abbrev Bf (c : Dev nD) {sp : Space} {S : Shape} {e : EltTy} (M : Memref sig .tc sp S e) : Type := Buf (Elt F) (M.view.loc (c : Thread nD τ))

/-- The row counter of the loop that starts the transfers. -/
abbrev Row : Type := Fin k0_t1_loop.trips

/-- The loops' trip counts. -/
theorem trips1 : k0_t1_loop.trips = 256 := by decide
theorem trips2 : k0_t2_loop.trips = 256 := by decide
theorem trips3 : k0_t3_loop.trips = 256 := by decide

/-- The destination of row `r`'s first choice, and of its second, as trip `r` loads them. -/
def word0 (c : Dev nD) (T : Bf (F := F) c destTab) (i : grid0.Coords) (r : Row) : BitVec 32 :=
  View.readAt (Elt F) destTab.view (Rect.unit (s := S32768) (k0_off1 i r) S1.size (k0_off1_inb i r)).toLoadRect T (Shape.Idx.first (numel1_S1.symm ▸ Nat.one_pos))
def word1 (c : Dev nD) (T : Bf (F := F) c destTab) (i : grid0.Coords) (r : Row) : BitVec 32 :=
  View.readAt (Elt F) destTab.view (Rect.unit (s := S32768) (k0_off4 i r) S1.size (k0_off4_inb i r)).toLoadRect T (Shape.Idx.first (numel1_S1.symm ▸ Nat.one_pos))

/-- Every destination the block's rows name is a row of the experts' rows. -/
structure InRange (c : Dev nD) (T : Bf (F := F) c destTab) (i : grid0.Coords) : Prop where
  first : ∀ r, k0_chk1 (word0 c T i r)
  second : ∀ r, k0_chk2 (word1 c T i r)

/-- Row `r` of the first page, and of the second: where trip `r`'s transfers land. -/
def dst0 (r : Row) : Memref sig .tc .vmem S1x1024 .f32 :=
  (pagesM.slice (Rect.unit (s := S2x256x1024) (k0_off2 r) S1x1x1024.size (k0_off2_inb r)) (fun _ => rfl)).squeeze S1x1024 squeezes_S1x1x1024_S1x1024
def dst1 (r : Row) : Memref sig .tc .vmem S1x1024 .f32 :=
  (pagesM.slice (Rect.unit (s := S2x256x1024) (k0_off5 r) S1x1x1024.size (k0_off5_inb r)) (fun _ => rfl)).squeeze S1x1024 squeezes_S1x1x1024_S1x1024
/-- Row `w` of the experts' rows: what trip `r`'s transfers read. -/
def src0 (w : BitVec 32) (h : k0_chk1 w) : Memref sig .tc .hbm S1x1024 .f32 :=
  rowsM.slice (Rect.unit (s := S40960x1024) (k0_off3 w) S1x1024.size (k0_off3_inb w h)) (fun _ => rfl)
def src1 (w : BitVec 32) (h : k0_chk2 w) : Memref sig .tc .hbm S1x1024 .f32 :=
  rowsM.slice (Rect.unit (s := S40960x1024) (k0_off6 w) S1x1024.size (k0_off6_inb w h)) (fun _ => rfl)

/-- The share of the experts' rows each transfer reads under: two rows may have one destination, so every transfer has its own. -/
def share0 (r : Row) : PosShare TreeShare := Transfers.dealOf fullShare.left Finset.univ r
def share1 (r : Row) : PosShare TreeShare := Transfers.dealOf fullShare.right Finset.univ r

/-- The credit of one row on the semaphore. -/
abbrev credit : ℕ := 128

section Deliveries

variable (c : Dev nD) {T : Bf (F := F) c destTab} {i : grid0.Coords} (ok : InRange c T i)
  (fp : Bf (F := F) c pagesM) (fy : Bf (F := F) c rowsM)

/-- The pages' contents, as the contents of the buffer under a row of them. -/
abbrev pageAt0 (f : Bf (F := F) c pagesM) (r : Row) : Bf (F := F) c (dst0 r) := f
abbrev pageAt1 (f : Bf (F := F) c pagesM) (r : Row) : Bf (F := F) c (dst1 r) := f
/-- A row of a page held whole, at contents `f` of the pages. -/
def page0 (f : Bf (F := F) c pagesM) (r : Row) : sProp 𝕄 := (dst0 r).view.loc (c : Thread nD τ) ↦[(dst0 r).view.set]{fullShare} (pageAt0 c f r)
def page1 (f : Bf (F := F) c pagesM) (r : Row) : sProp 𝕄 := (dst1 r).view.loc (c : Thread nD τ) ↦[(dst1 r).view.set]{fullShare} (pageAt1 c f r)
/-- The experts' rows, as the contents of the buffer under a row of them. -/
abbrev rowsAt0 (r : Row) : Bf (F := F) c (src0 (word0 c T i r) (ok.first r)) := fy
abbrev rowsAt1 (r : Row) : Bf (F := F) c (src1 (word1 c T i r) (ok.second r)) := fy
/-- A row of the experts' rows held at its transfer's share. -/
def read0 (r : Row) : sProp 𝕄 := (src0 (word0 c T i r) (ok.first r)).view.loc (c : Thread nD τ) ↦[(src0 (word0 c T i r) (ok.first r)).view.set]{share0 r} (rowsAt0 c ok fy r)
def read1 (r : Row) : sProp 𝕄 := (src1 (word1 c T i r) (ok.second r)).view.loc (c : Thread nD τ) ↦[(src1 (word1 c T i r) (ok.second r)).view.set]{share1 r} (rowsAt1 c ok fy r)

/-- The pages once row `r`'s transfer has landed. -/
def landed0 (r : Row) : Bf (F := F) c pagesM :=
  (dst0 r).view.write (Elt F) fp (ReadAs.same.apply ((src0 (word0 c T i r) (ok.first r)).view.read (Elt F) fy)) Finset.univ
def landed1 (r : Row) : Bf (F := F) c pagesM :=
  (dst1 r).view.write (Elt F) fp (ReadAs.same.apply ((src1 (word1 c T i r) (ok.second r)).view.read (Elt F) fy)) Finset.univ

/-- What a transfer hands back: its row of the page, landed, and the row it read. -/
def back0 (r : Row) : sProp 𝕄 := iprop(page0 c (landed0 c ok fp fy r) r ∗ read0 c ok fy r)
def back1 (r : Row) : sProp 𝕄 := iprop(page1 c (landed1 c ok fp fy r) r ∗ read1 c ok fy r)

instance (r : Row) : BI.Storable (upEmb : UEmb _ 𝕄) (back0 c ok fp fy r) := by
  unfold back0 page0 read0
  have h1 : BI.Storable (upEmb : UEmb _ 𝕄) ((dst0 r).view.loc (c : Thread nD τ) ↦[(dst0 r).view.set]{fullShare} (pageAt0 c (landed0 c ok fp fy r) r) : sProp 𝕄) := inferInstance
  have h2 : BI.Storable (upEmb : UEmb _ 𝕄) ((src0 (word0 c T i r) (ok.first r)).view.loc (c : Thread nD τ) ↦[(src0 (word0 c T i r) (ok.first r)).view.set]{share0 r} (rowsAt0 c ok fy r) : sProp 𝕄) := inferInstance
  infer_instance
instance (r : Row) : BI.Storable (upEmb : UEmb _ 𝕄) (back1 c ok fp fy r) := by
  unfold back1 page1 read1; infer_instance

/-- Half a transfer's number is its row. -/
theorem half_lt (t : Fin 512) : t.val / 2 < k0_t1_loop.trips := by rw [trips1]; have := t.isLt; omega

/-- The transfers in the order they start: row by row, the first choice before the second. -/
def back (t : Fin 512) : sProp 𝕄 :=
  if t.val % 2 = 0 then back0 c ok fp fy ⟨t.val / 2, half_lt t⟩ else back1 c ok fp fy ⟨t.val / 2, half_lt t⟩

instance (t : Fin 512) : BI.Storable (upEmb : UEmb _ 𝕄) (back c ok fp fy t) := by
  unfold back; split <;> infer_instance

theorem back_even (r : Row) (h : 2 * r.val < 512) : back c ok fp fy ⟨2 * r.val, h⟩ = back0 c ok fp fy r := by
  unfold back
  rw [if_pos (by show 2 * r.val % 2 = 0; omega)]
  congr 1
  exact Fin.ext (by show 2 * r.val / 2 = r.val; omega)
theorem back_odd (r : Row) (h : 2 * r.val + 1 < 512) : back c ok fp fy ⟨2 * r.val + 1, h⟩ = back1 c ok fp fy r := by
  unfold back
  rw [if_neg (by show ¬ (2 * r.val + 1) % 2 = 0; omega)]
  congr 1
  exact Fin.ext (by show (2 * r.val + 1) / 2 = r.val; omega)

/-- The batch on the kernel's semaphore: `j` of the 512 transfers started, `u` units of credit waited for. -/
abbrev batch (j u : ℕ) : sProp 𝕄 :=
  Transfers.Batch countersEmb (c : Thread nD τ) (.dma cc0_scratch1.sem) () credit (back c ok fp fy) j u

/-- The 512 deliveries are the two families of 256. -/
theorem back_all : (bigSep Finset.univ (back c ok fp fy) : sProp 𝕄)
    = iprop(bigSep Finset.univ (back0 c ok fp fy) ∗ bigSep Finset.univ (back1 c ok fp fy)) := by
  have e0 : ∀ (f : Row → sProp 𝕄), (bigSep Finset.univ f : sProp 𝕄)
      = bigSep (Finset.range 256) fun t => if h : t < k0_t1_loop.trips then f ⟨t, h⟩ else (BI.emp : sProp 𝕄) := fun f =>
    Ring.bigSep_fin_eq_range 256 f (fun t => if h : t < k0_t1_loop.trips then f ⟨t, h⟩ else (BI.emp : sProp 𝕄)) (fun t h => by
      rw [dif_pos (show t < k0_t1_loop.trips from h)]; rfl)
  rw [e0, e0, ← Ring.bigSep_range_interleave]
  refine Ring.bigSep_fin_eq_range 512 _ _ fun t h => ?_
  have h2 : t / 2 < k0_t1_loop.trips := half_lt ⟨t, h⟩
  rw [dif_pos h2, dif_pos h2]
  rfl

end Deliveries

end Cert.Combine

end
-- ==== Proof.Combine.Loops.lean ====
/- The combine call, its three loops: the first starts two transfers a row, the other two wait for one transfer a trip; the
   last trip of the third has every transfer back. -/
module

public import proofs.«01_k».proof.Proof.Combine.Rows

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The half of the table of destinations the body is lent. -/
abbrev tabHeld (c : Dev nD) (T : Bf (F := F) c destTab) : sProp 𝕄 := destTab.view.loc (c : Thread nD τ) ↦{fullShare.right} T

section Loops

variable (c : Dev nD) {T : Bf (F := F) c destTab} {i : grid0.Coords} (ok : InRange c T i)
  (fp : Bf (F := F) c pagesM) (fy : Bf (F := F) c rowsM)

/-- The rows from `k` on. -/
abbrev rest (k : ℕ) : Finset Row := Ring.rangeSet k0_t1_loop.trips k k0_t1_loop.trips

/-- Before trip `k` of the first loop: the transfers of the rows below `k` started, none waited for; the rows of the pages and
    of the experts' rows from `k` on in hand; the table to read. -/
def startAt (k : ℕ) (_ : Unit) : sProp 𝕄 :=
  iprop(batch c ok fp fy (2 * k) 0
    ∗ bigSep (rest k) (page0 c fp) ∗ bigSep (rest k) (page1 c fp)
    ∗ bigSep (rest k) (read0 c ok fy) ∗ bigSep (rest k) (read1 c ok fy)
    ∗ tabHeld c T)

/-- Starting row `r`'s first transfer: its two rows go into the batch. -/
theorem start0 {α : Type} (r : Row) {hsrc hdst hsem} {kk : PUnit → Prog (TpuEff nD τ sig (Elt F) Λ₀ .tc) α} (Q : α → sProp 𝕄) :
    iprop(read0 c ok fy r ∗ page0 c fp r ∗ batch c ok fp fy (2 * r.val) 0)
      ⊢ iprop((batch c ok fp fy (2 * r.val + 1) 0 -∗ wp frame (wpE (defs₀ (F := F)) Variants.none (c : Thread nD τ) none) Set.univ (kk ⟨⟩) Q)
          -∗ wp frame (wpE (defs₀ (F := F)) Variants.none (c : Thread nD τ) none) Set.univ
              (.op (.enqueueDmaAs (src0 (word0 c T i r) (ok.first r)) (.here (dst0 r)) ReadAs.same (.dma cc0_scratch1.sem) hsrc hdst hsem) kk) Q) := by
  have hr : r.val < 256 := trips1 ▸ r.isLt
  exact Transfers.wp_dmaBatch countersEmb Variants.none (c : Thread nD τ) none () credit rfl (Finset.Subset.refl _)
    (show 2 * r.val < 512 by omega) (Nat.zero_le _) (by rw [back_even]; exact .rfl)

/-- Starting row `r`'s second transfer. -/
theorem start1 {α : Type} (r : Row) {hsrc hdst hsem} {kk : PUnit → Prog (TpuEff nD τ sig (Elt F) Λ₀ .tc) α} (Q : α → sProp 𝕄) :
    iprop(read1 c ok fy r ∗ page1 c fp r ∗ batch c ok fp fy (2 * r.val + 1) 0)
      ⊢ iprop((batch c ok fp fy (2 * r.val + 1 + 1) 0 -∗ wp frame (wpE (defs₀ (F := F)) Variants.none (c : Thread nD τ) none) Set.univ (kk ⟨⟩) Q)
          -∗ wp frame (wpE (defs₀ (F := F)) Variants.none (c : Thread nD τ) none) Set.univ
              (.op (.enqueueDmaAs (src1 (word1 c T i r) (ok.second r)) (.here (dst1 r)) ReadAs.same (.dma cc0_scratch1.sem) hsrc hdst hsem) kk) Q) := by
  have hr : r.val < 256 := trips1 ▸ r.isLt
  exact Transfers.wp_dmaBatch countersEmb Variants.none (c : Thread nD τ) none () credit rfl (Finset.Subset.refl _)
    (show 2 * r.val + 1 < 512 by omega) (Nat.zero_le _) (by rw [back_odd]; exact .rfl)

variable (arg2 : Memref sig .tc .vmem S256x1024 .f32) (harg2 : arg2.IsWhole) (arg3 : Memref sig .tc .vmem S256x2 .f32) (harg3 : arg3.IsWhole)
  (arg4 : Memref sig .tc .vmem S1x1024 .f32) (harg4 : arg4.IsWhole) (arg6 : Memref sig .tc .vmem S256x1024 .f32) (harg6 : arg6.IsWhole)

set_option maxHeartbeats 4000000 in
/-- One trip of the first loop. -/
theorem start_step (k : Row) (acc : Unit) :
    startAt c ok fp fy k acc
      ⊢ wp frame (wpE (defs₀ (F := F)) Variants.none (c : Thread nD τ) none) Set.univ
          (k0_t1_body i destTab (Memref.isWhole_whole _) arg2 harg2 arg3 harg3 arg4 harg4 rowsM (Memref.isWhole_whole _) arg6 harg6
            pagesM (Memref.isWhole_whole _) cc0_scratch1 k acc)
          (startAt c ok fp fy (k.val + 1)) := by
  have hchk1 : k0_chk1 (word0 c T i k) := ok.first k
  have hchk2 : k0_chk2 (word1 c T i k) := ok.second k
  unfold word0 at hchk1
  unfold word1 at hchk2
  have hT : destTab.IsWhole := Memref.isWhole_whole _
  unfold startAt rest
  rw [Ring.bigSep_rangeSet_head (Φ := page0 c fp) k.isLt k.isLt, Ring.bigSep_rangeSet_head (Φ := page1 c fp) k.isLt k.isLt,
    Ring.bigSep_rangeSet_head (Φ := read0 c ok fy) k.isLt k.isLt, Ring.bigSep_rangeSet_head (Φ := read1 c ok fy) k.isLt k.isLt]
  iintro ⟨HB, ⟨HP0, HPs0⟩, ⟨HP1, HPs1⟩, ⟨HR0, HRs0⟩, ⟨HR1, HRs1⟩, HT⟩
  dsimp only [k0_t1_body]
  sl_exec (disch := first | exact hchk1 | exact hchk2)
  iapply (start0 c ok fp fy k _) $$ [HR0 HP0 HB]
  · isplitl [HR0]; · iexact HR0
    isplitl [HP0]; · iexact HP0
    iexact HB
  iintro HB
  sl_exec (disch := first | exact hchk1 | exact hchk2)
  iapply (start1 c ok fp fy k _) $$ [HR1 HP1 HB]
  · isplitl [HR1]; · iexact HR1
    isplitl [HP1]; · iexact HP1
    iexact HB
  iintro HB
  sl_exec
  sl_step
  isplitl [HB]; · iexact HB
  isplitl [HPs0]; · iexact HPs0
  isplitl [HPs1]; · iexact HPs1
  isplitl [HRs0]; · iexact HRs0
  isplitl [HRs1]; · iexact HRs1
  iexact HT

/-- Before trip `k` of the second loop: every transfer started, `k` rows' credit waited for. -/
def waitFirstAt (k : ℕ) (_ : Unit) : sProp 𝕄 :=
  iprop((∃ W, owes (c : Thread nD τ) 0 W) ∗ batch c ok fp fy 512 (k * credit))

/-- One trip of the second loop. -/
theorem waitFirst_step (k : Fin k0_t2_loop.trips) (acc : Unit) :
    waitFirstAt c ok fp fy k acc
      ⊢ wp frame (wpE (defs₀ (F := F)) Variants.none (c : Thread nD τ) none) Set.univ
          (k0_t2_body i destTab (Memref.isWhole_whole _) arg2 harg2 arg3 harg3 arg4 harg4 rowsM (Memref.isWhole_whole _) arg6 harg6
            pagesM (Memref.isWhole_whole _) cc0_scratch1 k acc)
          (waitFirstAt c ok fp fy (k.val + 1)) := by
  have hk : k.val < 256 := trips2 ▸ k.isLt
  unfold waitFirstAt
  iintro ⟨⟨%W, HO⟩, HB⟩
  dsimp only [k0_t2_body]
  sl_exec
  sl_step
  isplitl [HO]; · iexists _; iexact HO
  rw [show (k.val + 1) * credit = k.val * credit + credit from Nat.succ_mul _ _]
  iexact HB

/-- Before trip `k` of the third loop: `256 + k` rows' credit waited for; after the last trip, every transfer's delivery in hand
    and the semaphore at zero. -/
def waitSecondAt (k : ℕ) (_ : Unit) : sProp 𝕄 :=
  iprop((∃ W, owes (c : Thread nD τ) 0 W)
    ∗ (if k < 256 then batch c ok fp fy 512 ((256 + k) * credit)
       else iprop(semVal ((c : Thread nD τ), SemLoc.dma cc0_scratch1.sem) 0 ∗ bigSep Finset.univ (back c ok fp fy))))

/-- One trip of the third loop. -/
theorem waitSecond_step (k : Fin k0_t3_loop.trips) (acc : Unit) :
    waitSecondAt c ok fp fy k acc
      ⊢ wp frame (wpE (defs₀ (F := F)) Variants.none (c : Thread nD τ) none) Set.univ
          (k0_t3_body i destTab (Memref.isWhole_whole _) arg2 harg2 arg3 harg3 arg4 harg4 rowsM (Memref.isWhole_whole _) arg6 harg6
            pagesM (Memref.isWhole_whole _) cc0_scratch1 k acc)
          (waitSecondAt c ok fp fy (k.val + 1)) := by
  have hk : k.val < 256 := trips3 ▸ k.isLt
  unfold waitSecondAt
  rw [if_pos hk]
  by_cases h1 : k.val + 1 < 256
  · rw [if_pos h1]
    iintro ⟨⟨%W, HO⟩, HB⟩
    dsimp only [k0_t3_body]
    sl_exec
    sl_step
    isplitl [HO]; · iexists _; iexact HO
    rw [show (256 + (k.val + 1)) * credit = (256 + k.val) * credit + credit from Nat.succ_mul _ _]
    iexact HB
  · have hlast : k.val = 255 := by omega
    rw [if_neg h1]
    iintro ⟨⟨%W, HO⟩, HB⟩
    dsimp only [k0_t3_body]
    sl_exec
    sl_step
    isplitl [HO]; · iexists _; iexact HO
    isplitl [HB]; · iexact HB
    iexact HB_all

end Loops

end Cert.Combine

end
-- ==== Proof.Combine.Pages.lean ====
/- The combine call, the pages: the two pages are their 512 rows, the experts' rows lend every transfer the row it reads, and
   once every transfer has landed the pages hold, at each row, the experts' row its destination names. -/
module

public import proofs.«01_k».proof.Proof.Combine.Loops
public import Idealize.ShloMosaic.Lib.ValueLayout
public import Idealize.ShloMosaic.Lib.Pointwise

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-! ## Where the rows lie -/

/-- Two coordinates of the same values are the same. -/
theorem idx2_ext {a b : ℕ} {x y : (⟨2, ![a, b]⟩ : Shape).Idx} (h0 : (x 0).val = (y 0).val) (h1 : (x 1).val = (y 1).val) : x = y := by
  funext d; fin_cases d
  · exact Fin.ext h0
  · exact Fin.ext h1

theorem off2_eq : ∀ r : Row, k0_off2 r = ![0, r.val, 0] := by decide +kernel
theorem off5_eq : ∀ r : Row, k0_off5 r = ![1, r.val, 0] := by decide +kernel

/-- Element `j` of row `r` of the first page, and of the second, in the pages. -/
theorem dst0_emb (r : Row) (j : Fin 1024) (a : Fin 3) :
    ((show S2x256x1024.Idx from (dst0 r).view.emb (ix2 (0 : Fin 1) j)) a).val = (![0, r.val, j.val] : Fin 3 → ℕ) a := by
  show (((Rect.unit (s := S2x256x1024) (k0_off2 r) S1x1x1024.size (k0_off2_inb r)).emb
    (Shape.reshapeEquiv squeezes_S1x1x1024_S1x1024.numel_eq (ix2 (0 : Fin 1) j))) a).val = _
  rw [show Shape.reshapeEquiv squeezes_S1x1x1024_S1x1024.numel_eq (ix2 (0 : Fin 1) j) = ValueIdx.ix3 (0 : Fin 1) (0 : Fin 1) j from
    (congrArg _ (ix2_eq_valueIdx _ _)).trans (ValueIdx.reshapeEquiv_ix2_1ab _ _ _)]
  have h := off2_eq r
  fin_cases a
  · show k0_off2 r 0 + 1 * 0 = 0; rw [h]; rfl
  · show k0_off2 r 1 + 1 * 0 = r.val; rw [h]; rfl
  · show k0_off2 r 2 + 1 * j.val = j.val; rw [h]; show 0 + 1 * j.val = j.val; omega
theorem dst1_emb (r : Row) (j : Fin 1024) (a : Fin 3) :
    ((show S2x256x1024.Idx from (dst1 r).view.emb (ix2 (0 : Fin 1) j)) a).val = (![1, r.val, j.val] : Fin 3 → ℕ) a := by
  show (((Rect.unit (s := S2x256x1024) (k0_off5 r) S1x1x1024.size (k0_off5_inb r)).emb
    (Shape.reshapeEquiv squeezes_S1x1x1024_S1x1024.numel_eq (ix2 (0 : Fin 1) j))) a).val = _
  rw [show Shape.reshapeEquiv squeezes_S1x1x1024_S1x1024.numel_eq (ix2 (0 : Fin 1) j) = ValueIdx.ix3 (0 : Fin 1) (0 : Fin 1) j from
    (congrArg _ (ix2_eq_valueIdx _ _)).trans (ValueIdx.reshapeEquiv_ix2_1ab _ _ _)]
  have h := off5_eq r
  fin_cases a
  · show k0_off5 r 0 + 1 * 0 = 1; rw [h]; rfl
  · show k0_off5 r 1 + 1 * 0 = r.val; rw [h]; rfl
  · show k0_off5 r 2 + 1 * j.val = j.val; rw [h]; show 0 + 1 * j.val = j.val; omega

/-- The elements of row `r` of each page. -/
abbrev rowSet0 (c : Dev nD) (r : Row) : Finset (Idx (pagesM.view.loc (c : Thread nD τ))) := (dst0 r).view.set
abbrev rowSet1 (c : Dev nD) (r : Row) : Finset (Idx (pagesM.view.loc (c : Thread nD τ))) := (dst1 r).view.set

theorem mem_rowSet0 (c : Dev nD) (r : Row) (y : S2x256x1024.Idx) : y ∈ rowSet0 c r ↔ (y 0).val = 0 ∧ (y 1).val = r.val := by
  have e : rowSet0 c r = (Rect.unit (s := S2x256x1024) (k0_off2 r) S1x1x1024.size (k0_off2_inb r)).set :=
    (Memref.set_view_squeeze (pagesM.slice (Rect.unit (s := S2x256x1024) (k0_off2 r) S1x1x1024.size (k0_off2_inb r)) (fun _ => rfl)) squeezes_S1x1x1024_S1x1024).trans
      (View.set_slice_whole (cc0_scratch0 : Ref sig .tc) (Rect.unit (s := S2x256x1024) (k0_off2 r) S1x1x1024.size (k0_off2_inb r)))
  have h := off2_eq r
  refine (show (y ∈ rowSet0 c r) ↔ y ∈ (Rect.unit (s := S2x256x1024) (k0_off2 r) S1x1x1024.size (k0_off2_inb r)).set from by rw [e]).trans (Rect.mem_set_unit.trans ?_)
  have h0 : k0_off2 r 0 = 0 := by rw [h]; rfl
  have h1 : k0_off2 r 1 = r.val := by rw [h]; rfl
  have h2 : k0_off2 r 2 = 0 := by rw [h]; rfl
  have b2 : (y 2).val < 1024 := (y 2).isLt
  constructor
  · intro H
    have a0 : k0_off2 r 0 ≤ (y 0).val ∧ (y 0).val < k0_off2 r 0 + 1 := H 0
    have a1 : k0_off2 r 1 ≤ (y 1).val ∧ (y 1).val < k0_off2 r 1 + 1 := H 1
    omega
  · rintro ⟨e0, e1⟩ a
    fin_cases a
    · show k0_off2 r 0 ≤ (y 0).val ∧ (y 0).val < k0_off2 r 0 + 1; omega
    · show k0_off2 r 1 ≤ (y 1).val ∧ (y 1).val < k0_off2 r 1 + 1; omega
    · show k0_off2 r 2 ≤ (y 2).val ∧ (y 2).val < k0_off2 r 2 + 1024; omega

theorem mem_rowSet1 (c : Dev nD) (r : Row) (y : S2x256x1024.Idx) : y ∈ rowSet1 c r ↔ (y 0).val = 1 ∧ (y 1).val = r.val := by
  have e : rowSet1 c r = (Rect.unit (s := S2x256x1024) (k0_off5 r) S1x1x1024.size (k0_off5_inb r)).set :=
    (Memref.set_view_squeeze (pagesM.slice (Rect.unit (s := S2x256x1024) (k0_off5 r) S1x1x1024.size (k0_off5_inb r)) (fun _ => rfl)) squeezes_S1x1x1024_S1x1024).trans
      (View.set_slice_whole (cc0_scratch0 : Ref sig .tc) (Rect.unit (s := S2x256x1024) (k0_off5 r) S1x1x1024.size (k0_off5_inb r)))
  have h := off5_eq r
  refine (show (y ∈ rowSet1 c r) ↔ y ∈ (Rect.unit (s := S2x256x1024) (k0_off5 r) S1x1x1024.size (k0_off5_inb r)).set from by rw [e]).trans (Rect.mem_set_unit.trans ?_)
  have h0 : k0_off5 r 0 = 1 := by rw [h]; rfl
  have h1 : k0_off5 r 1 = r.val := by rw [h]; rfl
  have h2 : k0_off5 r 2 = 0 := by rw [h]; rfl
  have b2 : (y 2).val < 1024 := (y 2).isLt
  constructor
  · intro H
    have a0 : k0_off5 r 0 ≤ (y 0).val ∧ (y 0).val < k0_off5 r 0 + 1 := H 0
    have a1 : k0_off5 r 1 ≤ (y 1).val ∧ (y 1).val < k0_off5 r 1 + 1 := H 1
    omega
  · rintro ⟨e0, e1⟩ a
    fin_cases a
    · show k0_off5 r 0 ≤ (y 0).val ∧ (y 0).val < k0_off5 r 0 + 1; omega
    · show k0_off5 r 1 ≤ (y 1).val ∧ (y 1).val < k0_off5 r 1 + 1; omega
    · show k0_off5 r 2 ≤ (y 2).val ∧ (y 2).val < k0_off5 r 2 + 1024; omega

/-- Every element of the pages lies in a row. -/
theorem some_row (c : Dev nD) (y : S2x256x1024.Idx) : (∃ r, y ∈ rowSet0 c r) ∨ ∃ r, y ∈ rowSet1 c r := by
  have b0 : (y 0).val < 2 := (y 0).isLt
  have b1 : (y 1).val < k0_t1_loop.trips := by rw [trips1]; exact (y 1).isLt
  rcases Nat.lt_or_ge (y 0).val 1 with h | h
  · exact .inl ⟨⟨_, b1⟩, (mem_rowSet0 c _ y).2 ⟨Nat.lt_one_iff.1 h, rfl⟩⟩
  · exact .inr ⟨⟨_, b1⟩, (mem_rowSet1 c _ y).2 ⟨le_antisymm (Nat.lt_succ_iff.1 b0) h, rfl⟩⟩

/-! ## The pages by rows -/

/-- The pages held whole are their rows held one by one. -/
theorem pages_split (c : Dev nD) (f : Bf (F := F) c pagesM) :
    (pagesM.view.loc (c : Thread nD τ) ↦{fullShare} f : sProp 𝕄)
      = iprop(bigSep Finset.univ (page0 c f) ∗ bigSep Finset.univ (page1 c f)) := by
  have cover : (Finset.univ : Finset (Idx (pagesM.view.loc (c : Thread nD τ))))
      = (Finset.univ.biUnion (rowSet0 c)) ∪ (Finset.univ.biUnion (rowSet1 c)) := by
    ext y
    simp only [Finset.mem_univ, Finset.mem_union, Finset.mem_biUnion, true_and, true_iff]
    exact some_row c y
  have disj : Disjoint (Finset.univ.biUnion (rowSet0 c)) (Finset.univ.biUnion (rowSet1 c)) := by
    rw [Finset.disjoint_left]
    intro y hy hy'
    obtain ⟨r, -, hr⟩ := Finset.mem_biUnion.1 hy
    obtain ⟨r', -, hr'⟩ := Finset.mem_biUnion.1 hy'
    have e0 := ((mem_rowSet0 c r y).1 hr).1
    have e1 := ((mem_rowSet1 c r' y).1 hr').1
    omega
  have d0 : ∀ t ∈ (Finset.univ : Finset Row), ∀ t' ∈ (Finset.univ : Finset Row), t ≠ t' → Disjoint (rowSet0 c t) (rowSet0 c t') := by
    intro t _ t' _ hne
    rw [Finset.disjoint_left]
    intro y hy hy'
    exact hne (Fin.ext (((mem_rowSet0 c t y).1 hy).2.symm.trans ((mem_rowSet0 c t' y).1 hy').2))
  have d1 : ∀ t ∈ (Finset.univ : Finset Row), ∀ t' ∈ (Finset.univ : Finset Row), t ≠ t' → Disjoint (rowSet1 c t) (rowSet1 c t') := by
    intro t _ t' _ hne
    rw [Finset.disjoint_left]
    intro y hy hy'
    exact hne (Fin.ext (((mem_rowSet1 c t y).1 hy).2.symm.trans ((mem_rowSet1 c t' y).1 hy').2))
  have hu : (pagesM.view.loc (c : Thread nD τ) ↦[(Finset.univ.biUnion (rowSet0 c)) ∪ (Finset.univ.biUnion (rowSet1 c))]{fullShare} f : sProp 𝕄)
      ⊣⊢ iprop((pagesM.view.loc (c : Thread nD τ) ↦[Finset.univ.biUnion (rowSet0 c)]{fullShare} f)
        ∗ pagesM.view.loc (c : Thread nD τ) ↦[Finset.univ.biUnion (rowSet1 c)]{fullShare} f) := pointsTo_union disj
  rw [show (pagesM.view.loc (c : Thread nD τ) ↦{fullShare} f : sProp 𝕄) = pagesM.view.loc (c : Thread nD τ) ↦[Finset.univ]{fullShare} f from rfl,
    cover, BI.equiv_iff.mp ⟨hu.1, hu.2⟩, pointsTo_biUnion _ _ d0, pointsTo_biUnion _ _ d1]
  rfl

section Gathered

variable (c : Dev nD) {T : Bf (F := F) c destTab} {i : grid0.Coords} (ok : InRange c T i)
  (fp : Bf (F := F) c pagesM) (fy : Bf (F := F) c rowsM)

/-- A destination in range is a row of the experts' rows. -/
theorem chk1_lt {w : BitVec 32} (h : k0_chk1 w) : w.toNat < 40960 := by
  have : w.toNat + 1 ≤ 40960 := h 0
  omega
theorem chk2_lt {w : BitVec 32} (h : k0_chk2 w) : w.toNat < 40960 := by
  have : w.toNat + 1 ≤ 40960 := h 0
  omega

/-- The row of the experts' rows that row `r` of page `k` is filled from. -/
def source (k : Fin 2) (r : Fin 256) : Fin 40960 :=
  if k.val = 0 then ⟨_, chk1_lt (ok.first (r.cast trips1.symm))⟩ else ⟨_, chk2_lt (ok.second (r.cast trips1.symm))⟩

/-- The pages once every transfer has landed. -/
def gathered : Vec F S2x256x1024 .f32 := fun x => (show Vec F S40960x1024 .f32 from fy) (ix2 (source c ok (x 0) (x 1)) (x 2))

theorem landed0_eq (r : Row) (y : S2x256x1024.Idx) (hy : y ∈ rowSet0 c r) :
    (show Vec F S2x256x1024 .f32 from landed0 c ok fp fy r) y = gathered c ok fy y := by
  obtain ⟨x, -, hx⟩ := Finset.mem_map.1 hy
  have hx1 : x = ix2 (0 : Fin 1) (x 1) := idx2_ext (by have : (x 0).val < 1 := (x 0).isLt; show (x 0).val = 0; omega) rfl
  rw [hx1] at hx
  have hc := dst0_emb r (x 1)
  rw [show (show S2x256x1024.Idx from (dst0 r).view.emb (ix2 (0 : Fin 1) (x 1))) = y from hx] at hc
  have c0 : (y 0).val = 0 := hc 0
  have c1 : (y 1).val = r.val := hc 1
  have c2 : (y 2).val = (x 1).val := hc 2
  have hl : (show Vec F S2x256x1024 .f32 from landed0 c ok fp fy r) y
      = (src0 (word0 c T i r) (ok.first r)).view.read (Elt F) fy (ix2 (0 : Fin 1) (x 1)) := by
    rw [← hx]
    exact View.write_emb_of_mem (v := (dst0 r).view) fp _ (Finset.mem_univ _)
  rw [hl]
  unfold gathered source
  rw [if_pos c0]
  refine congrArg (show Vec F S40960x1024 .f32 from fy) (idx2_ext ?_ ?_)
  · show k0_off3 (word0 c T i r) 0 + 1 * 0 = (word0 c T i ((y 1).cast trips1.symm)).toNat
    rw [show (y 1).cast trips1.symm = r from Fin.ext c1]
    rfl
  · show k0_off3 (word0 c T i r) 1 + 1 * (x 1).val = (y 2).val
    rw [c2]; exact (Nat.zero_add _).trans (Nat.one_mul _)

theorem landed1_eq (r : Row) (y : S2x256x1024.Idx) (hy : y ∈ rowSet1 c r) :
    (show Vec F S2x256x1024 .f32 from landed1 c ok fp fy r) y = gathered c ok fy y := by
  obtain ⟨x, -, hx⟩ := Finset.mem_map.1 hy
  have hx1 : x = ix2 (0 : Fin 1) (x 1) := idx2_ext (by have : (x 0).val < 1 := (x 0).isLt; show (x 0).val = 0; omega) rfl
  rw [hx1] at hx
  have hc := dst1_emb r (x 1)
  rw [show (show S2x256x1024.Idx from (dst1 r).view.emb (ix2 (0 : Fin 1) (x 1))) = y from hx] at hc
  have c0 : (y 0).val = 1 := hc 0
  have c1 : (y 1).val = r.val := hc 1
  have c2 : (y 2).val = (x 1).val := hc 2
  have hl : (show Vec F S2x256x1024 .f32 from landed1 c ok fp fy r) y
      = (src1 (word1 c T i r) (ok.second r)).view.read (Elt F) fy (ix2 (0 : Fin 1) (x 1)) := by
    rw [← hx]
    exact View.write_emb_of_mem (v := (dst1 r).view) fp _ (Finset.mem_univ _)
  rw [hl]
  unfold gathered source
  rw [if_neg (by omega)]
  refine congrArg (show Vec F S40960x1024 .f32 from fy) (idx2_ext ?_ ?_)
  · show k0_off6 (word1 c T i r) 0 + 1 * 0 = (word1 c T i ((y 1).cast trips1.symm)).toNat
    rw [show (y 1).cast trips1.symm = r from Fin.ext c1]
    rfl
  · show k0_off6 (word1 c T i r) 1 + 1 * (x 1).val = (y 2).val
    rw [c2]; exact (Nat.zero_add _).trans (Nat.one_mul _)

/-- The rows landed, one by one, are the pages at the gathered rows. -/
theorem pages_join : iprop(bigSep Finset.univ (fun r => page0 c (landed0 c ok fp fy r) r) ∗ bigSep Finset.univ (fun r => page1 c (landed1 c ok fp fy r) r))
    = (pagesM.view.loc (c : Thread nD τ) ↦{fullShare} (show Bf (F := F) c pagesM from gathered c ok fy) : sProp 𝕄) := by
  rw [pages_split c (show Bf (F := F) c pagesM from gathered c ok fy)]
  congr 1
  · exact BI.bigSep_congr fun r _ => pointsTo_congr fun y hy => landed0_eq c ok fp fy r y hy
  · exact BI.bigSep_congr fun r _ => pointsTo_congr fun y hy => landed1_eq c ok fp fy r y hy

/-! ## The experts' rows, lent to the transfers -/

/-- What is left of a transfer's share once the row it reads is taken out. -/
def left0 (r : Row) : sProp 𝕄 := rowsM.view.loc (c : Thread nD τ) ↦[Finset.univ \ (show Finset (Idx (rowsM.view.loc (c : Thread nD τ))) from (src0 (word0 c T i r) (ok.first r)).view.set)]{share0 r} fy
def left1 (r : Row) : sProp 𝕄 := rowsM.view.loc (c : Thread nD τ) ↦[Finset.univ \ (show Finset (Idx (rowsM.view.loc (c : Thread nD τ))) from (src1 (word1 c T i r) (ok.second r)).view.set)]{share1 r} fy

/-- The experts' rows held whole are every transfer's row at its share, and the rest of every share. -/
theorem rows_split : (rowsM.view.loc (c : Thread nD τ) ↦{fullShare} fy : sProp 𝕄)
    = iprop((bigSep Finset.univ (read0 c ok fy) ∗ bigSep Finset.univ (left0 c ok fy))
      ∗ (bigSep Finset.univ (read1 c ok fy) ∗ bigSep Finset.univ (left1 c ok fy))) := by
  have hne : (Finset.univ : Finset Row).Nonempty := ⟨⟨0, by rw [trips1]; decide⟩, Finset.mem_univ _⟩
  have hs : (rowsM.view.loc (c : Thread nD τ) ↦{fullShare} fy : sProp 𝕄)
      ⊣⊢ iprop((rowsM.view.loc (c : Thread nD τ) ↦{fullShare.left} fy) ∗ rowsM.view.loc (c : Thread nD τ) ↦{fullShare.right} fy) :=
    pointsTo_share (PosShare.mem_left_op_right fullShare)
  rw [BI.equiv_iff.mp ⟨hs.1, hs.2⟩, Transfers.pointsTo_deal Finset.univ hne fullShare.left, Transfers.pointsTo_deal Finset.univ hne fullShare.right,
    show iprop(bigSep Finset.univ (read0 c ok fy) ∗ bigSep Finset.univ (left0 c ok fy)) = _ from (BI.bigSep_sep _ _ _).symm,
    show iprop(bigSep Finset.univ (read1 c ok fy) ∗ bigSep Finset.univ (left1 c ok fy)) = _ from (BI.bigSep_sep _ _ _).symm]
  congr 1
  · refine BI.bigSep_congr fun r _ => ?_
    have h : (rowsM.view.loc (c : Thread nD τ) ↦{share0 r} fy : sProp 𝕄)
        ⊣⊢ iprop(read0 c ok fy r ∗ left0 c ok fy r) := pointsTo_split_subset (Finset.subset_univ _)
    exact BI.equiv_iff.mp ⟨h.1, h.2⟩
  · refine BI.bigSep_congr fun r _ => ?_
    have h : (rowsM.view.loc (c : Thread nD τ) ↦{share1 r} fy : sProp 𝕄)
        ⊣⊢ iprop(read1 c ok fy r ∗ left1 c ok fy r) := pointsTo_split_subset (Finset.subset_univ _)
    exact BI.equiv_iff.mp ⟨h.1, h.2⟩

end Gathered

end Cert.Combine

end
-- ==== Proof.Combine.Run.lean ====
/- The combine call, one block: what the body leaves on any staging buffers. Every row's two transfers are started, waited for
   and landed; the block is the residual row plus the two pages' rows at their gates, normalised. -/
module

public import proofs.«01_k».proof.Proof.Combine.Pages
public import Idealize.ShloMosaic.Lib.Writes
public import Idealize.ShloMosaic.Lib.WholeRead

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {F : FTy → Type} [FloatOps F]

local notation "𝕄" => MT nD τ sig Unit (Elt F) ℕ (UD sig nD τ) ℕ

/-- The two pages as the body loads them. -/
def pageLoad0 (G : Vec F S2x256x1024 .f32) : Vec F S1x256x1024 .f32 :=
  View.readAt (Elt F) pagesM.view (Rect.unit (s := S2x256x1024) ![0, 0, 0] S1x256x1024.size inb_S2x256x1024_S1x256x1024_0_0_0).toLoadRect G
def pageLoad1 (G : Vec F S2x256x1024 .f32) : Vec F S1x256x1024 .f32 :=
  View.readAt (Elt F) pagesM.view (Rect.unit (s := S2x256x1024) ![1, 0, 0] S1x256x1024.size inb_S2x256x1024_S1x256x1024_1_0_0).toLoadRect G

/-- What the body leaves in the result's block. -/
def blockOut (x : Vec F S256x1024 .f32) (gates : Vec F S256x2 .f32) (g : Vec F S1x1024 .f32) (G : Vec F S2x256x1024 .f32) : Vec F S256x1024 .f32 :=
  k0_pay1 (k0_pay2 g) (k0_pay3 gates x (pageLoad0 G) (pageLoad1 G))

theorem zeros2 : (![0, 0] : Fin 2 → ℕ) = fun _ => 0 := by funext a; fin_cases a <;> rfl

/-- A buffer read back after one store over the whole of it holds what was stored. -/
theorem read_one_store {S : Shape} {e : EltTy} (M : Memref sig .tc .vmem S e) (f : M.view.ty.Contents (Elt F)) {off : Fin S.rank → ℕ}
    (h : off = fun _ => 0) (inb : ∀ a, off a + S.size a ≤ S.size a) (w : Vec F S e) :
    M.view.read (Elt F) (M.view.writes (Elt F) f [⟨Rect.unit off S.size inb, w⟩]) = w :=
  (View.read_writes_eq_canon M.view f _ fun y => ⟨_, List.mem_singleton_self _, View.mem_set_unit_zero h inb y⟩).trans
    (View.canon_unit_zero h inb w)

/-- A load of the whole of a buffer is the buffer's contents. -/
theorem load_whole {S : Shape} {e : EltTy} (M : Memref sig .tc .vmem S e) (f : M.view.ty.Contents (Elt F)) {off : Fin S.rank → ℕ}
    (h : off = fun _ => 0) (inb : ∀ a, off a + S.size a ≤ S.size a) :
    M.view.readAt (Elt F) (Rect.unit off S.size inb).toLoadRect f = M.view.read (Elt F) f :=
  (View.readAt_eq_ld M.view f _).trans (View.ld_unit_zero h inb _)

section Ends

variable (c : Dev nD) {T : Bf (F := F) c destTab} {i : grid0.Coords} (ok : InRange c T i)
  (fp : Bf (F := F) c pagesM) (fy : Bf (F := F) c rowsM)

/-- Before the first trip every row is in hand. -/
theorem start_first : iprop(batch c ok fp fy 0 0
      ∗ bigSep Finset.univ (page0 c fp) ∗ bigSep Finset.univ (page1 c fp)
      ∗ bigSep Finset.univ (read0 c ok fy) ∗ bigSep Finset.univ (read1 c ok fy) ∗ tabHeld c T) ⊢ startAt c ok fp fy 0 () := by
  unfold startAt rest
  rw [Ring.rangeSet_univ]

/-- After the last trip every transfer is started. -/
theorem start_last (acc : Unit) : startAt c ok fp fy k0_t1_loop.trips acc ⊢ iprop(batch c ok fp fy 512 0 ∗ tabHeld c T) := by
  unfold startAt rest
  rw [show 2 * k0_t1_loop.trips = 512 by rw [trips1]]
  simp only [Ring.bigSep_rangeSet_empty (le_refl _)]
  iintro ⟨A, -, -, -, -, B⟩
  isplitl [A] <;> iassumption

theorem wait_first : iprop((∃ W, owes (c : Thread nD τ) 0 W) ∗ batch c ok fp fy 512 0) ⊢ waitFirstAt c ok fp fy 0 () := by
  unfold waitFirstAt
  rw [Nat.zero_mul]

theorem wait_middle (acc : Unit) : waitFirstAt c ok fp fy k0_t2_loop.trips acc ⊢ waitSecondAt c ok fp fy 0 () := by
  unfold waitFirstAt waitSecondAt
  rw [if_pos (by decide), trips2]

theorem wait_last (acc : Unit) : waitSecondAt c ok fp fy k0_t3_loop.trips acc
    ⊢ iprop((∃ W, owes (c : Thread nD τ) 0 W) ∗ semVal ((c : Thread nD τ), SemLoc.dma cc0_scratch1.sem) 0
      ∗ bigSep Finset.univ (fun r => page0 c (landed0 c ok fp fy r) r) ∗ bigSep Finset.univ (read0 c ok fy)
      ∗ bigSep Finset.univ (fun r => page1 c (landed1 c ok fp fy r) r) ∗ bigSep Finset.univ (read1 c ok fy)) := by
  unfold waitSecondAt
  rw [if_neg (by rw [trips3]; decide), back_all]
  unfold back0 back1
  rw [show (bigSep Finset.univ fun r => iprop(page0 c (landed0 c ok fp fy r) r ∗ read0 c ok fy r) : sProp 𝕄)
      = iprop(bigSep Finset.univ (fun r => page0 c (landed0 c ok fp fy r) r) ∗ bigSep Finset.univ (read0 c ok fy)) from BI.bigSep_sep _ _ _,
    show (bigSep Finset.univ fun r => iprop(page1 c (landed1 c ok fp fy r) r ∗ read1 c ok fy r) : sProp 𝕄)
      = iprop(bigSep Finset.univ (fun r => page1 c (landed1 c ok fp fy r) r) ∗ bigSep Finset.univ (read1 c ok fy)) from BI.bigSep_sep _ _ _]
  iintro ⟨HO, HS, ⟨A, B⟩, C, D⟩
  isplitl [HO]; · iexact HO
  isplitl [HS]; · iexact HS
  isplitl [A]; · iexact A
  isplitl [B]; · iexact B
  isplitl [C]; · iexact C
  iexact D

/-- The rows the transfers read and the rest of their shares are the experts' rows whole. -/
theorem rows_join : iprop(bigSep Finset.univ (read0 c ok fy) ∗ bigSep Finset.univ (left0 c ok fy)
      ∗ bigSep Finset.univ (read1 c ok fy) ∗ bigSep Finset.univ (left1 c ok fy))
    ⊢ (rowsM.view.loc (c : Thread nD τ) ↦{fullShare} fy : sProp 𝕄) := by
  rw [rows_split c ok fy]
  iintro ⟨A, B, C, D⟩
  isplitl [A B]
  · isplitl [A] <;> iassumption
  isplitl [C] <;> iassumption

end Ends

set_option maxHeartbeats 8000000 in
/-- The body on any staging buffers: it leaves the inputs, the table and the experts' rows as they were, the semaphore at zero and
    the result's block at `blockOut`. -/
theorem body_run (c : Dev nD) (i : grid0.Coords) (arg2 : Memref sig .tc .vmem S256x1024 .f32) (harg2 : arg2.IsWhole)
    (arg3 : Memref sig .tc .vmem S256x2 .f32) (harg3 : arg3.IsWhole) (arg4 : Memref sig .tc .vmem S1x1024 .f32) (harg4 : arg4.IsWhole)
    (arg6 : Memref sig .tc .vmem S256x1024 .f32) (harg6 : arg6.IsWhole)
    (x : Vec F S256x1024 .f32) (gates : Vec F S256x2 .f32) (g : Vec F S1x1024 .f32)
    (T : Bf (F := F) c destTab) (ok : InRange c T i) (fy : Bf (F := F) c rowsM) (W : Waits sig Unit) (K : PUnit → sProp 𝕄) :
    iprop(owns (c : Thread nD τ) arg2 fullShare x ∗ owns (c : Thread nD τ) arg3 fullShare gates ∗ owns (c : Thread nD τ) arg4 fullShare g
        ∗ (∃ d, owns (c : Thread nD τ) arg6 fullShare d) ∗ tabHeld c T
        ∗ (∃ fp : Bf (F := F) c pagesM, pagesM.view.loc (c : Thread nD τ) ↦{fullShare} fp)
        ∗ (rowsM.view.loc (c : Thread nD τ) ↦{fullShare} fy)
        ∗ semVal ((c : Thread nD τ), SemLoc.dma cc0_scratch1.sem) 0 ∗ owes (c : Thread nD τ) 0 W
        ∗ (iprop(owns (c : Thread nD τ) arg2 fullShare x ∗ owns (c : Thread nD τ) arg3 fullShare gates ∗ owns (c : Thread nD τ) arg4 fullShare g
            ∗ owns (c : Thread nD τ) arg6 fullShare (blockOut x gates g (gathered c ok fy)) ∗ tabHeld c T
            ∗ (∃ fp : Bf (F := F) c pagesM, pagesM.view.loc (c : Thread nD τ) ↦{fullShare} fp)
            ∗ (rowsM.view.loc (c : Thread nD τ) ↦{fullShare} fy)
            ∗ semVal ((c : Thread nD τ), SemLoc.dma cc0_scratch1.sem) 0 ∗ ∃ W, owes (c : Thread nD τ) 0 W) -∗ K ⟨⟩))
      ⊢ wp frame (wpE (defs₀ (F := F)) Variants.none c none) Set.univ
          (cc0_combine i destTab (Memref.isWhole_whole _) arg2 harg2 arg3 harg3 arg4 harg4 rowsM (Memref.isWhole_whole _) arg6 harg6
            pagesM (Memref.isWhole_whole _) cc0_scratch1) K := by
  rw [cc0_combine_eq_skeleton]; unfold cc0_combine_skel
  rw [k0_part1_eq_skeleton]; unfold k0_part1_skel
  simp only [bind_assoc]
  have hT : destTab.IsWhole := Memref.isWhole_whole _
  unfold owns
  iintro ⟨⟨%f0, %hf0, H0⟩, ⟨%f1, %hf1, H1⟩, ⟨%f2, %hf2, H2⟩, ⟨%d3, %f3, -, H3⟩, HT, ⟨%fp, HP⟩, HY, HS, HO, Hk⟩
  ihave HP' := (Entails.of_eq (pages_split c fp)) $$ HP
  icases HP' with ⟨HP0, HP1⟩
  ihave HY' := (Entails.of_eq (rows_split c ok fy)) $$ HY
  icases HY' with ⟨⟨HR0, HL0⟩, HR1, HL1⟩
  imod (Transfers.batch_alloc' (Lvl := ℕ) countersEmb (c : Thread nD τ) () credit (back c ok fp fy) (sm := .dma cc0_scratch1.sem) (E := Set.univ)) $$ HS with HB
  sl_for (startAt c ok fp fy) $$ [HB HP0 HP1 HR0 HR1 HT]
  · intro k acc; exact start_step c ok fp fy arg2 harg2 arg3 harg3 arg4 harg4 arg6 harg6 k acc
  · iapply (start_first c ok fp fy)
    isplitl [HB]; · iexact HB
    isplitl [HP0]; · iexact HP0
    isplitl [HP1]; · iexact HP1
    isplitl [HR0]; · iexact HR0
    isplitl [HR1]; · iexact HR1
    iexact HT
  iintro %acc HL
  ihave HL' := (start_last c ok fp fy acc) $$ HL
  icases HL' with ⟨HB, HT⟩
  sl_for (waitFirstAt c ok fp fy) $$ [HB HO]
  · intro k acc; exact waitFirst_step c ok fp fy arg2 harg2 arg3 harg3 arg4 harg4 arg6 harg6 k acc
  · iapply (wait_first c ok fp fy)
    isplitl [HO]; · iexists _; iexact HO
    iexact HB
  iintro %acc2 HL
  ihave HL2 := (wait_middle c ok fp fy acc2) $$ HL
  sl_for (waitSecondAt c ok fp fy) $$ [HL2]
  · intro k acc; exact waitSecond_step c ok fp fy arg2 harg2 arg3 harg3 arg4 harg4 arg6 harg6 k acc
  · iexact HL2
  iintro %acc3 HL
  ihave HL3 := (wait_last c ok fp fy acc3) $$ HL
  icases HL3 with ⟨⟨%W', HO⟩, HS, HP0, HR0, HP1, HR1⟩
  ihave HP := (Entails.of_eq (pages_join c ok fp fy)) $$ [HP0 HP1]
  · isplitl [HP0] <;> iassumption
  ihave HY := (rows_join c ok fy) $$ [HR0 HL0 HR1 HL1]
  · isplitl [HR0]; · iexact HR0
    isplitl [HL0]; · iexact HL0
    isplitl [HR1] <;> iassumption
  sl_exec!
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    swap; · iexact H3
    ipureintro
    refine (read_one_store arg6 _ zeros2 _ _).trans ?_
    rw [load_whole arg2 _ zeros2, load_whole arg3 _ zeros2, load_whole arg4 _ zeros2, hf0, hf1, hf2]
    rfl
  isplitl [HT]; · iexact HT
  isplitl [HP]; · iexists _; iexact HP
  isplitl [HY]; · iexact HY
  isplitl [HS]; · iexact HS
  iexists _; iexact HO

end Cert.Combine

end
-- ==== Proof.Combine.Frame.lean ====
/- The combine call, the whole run: for destinations that are all rows of the experts' rows, every point of the grid finds its
   inputs' blocks staged, leaves the result's block at `blockOut`, and every argument is left as it was. -/
module

public import proofs.«01_k».proof.Proof.Combine.Run
public import Idealize.ShloMosaic.Lib.Pipeline.Quiescent
public import Idealize.ShloMosaic.Lib.Pipeline.FrameBody
public import Idealize.ShloMosaic.Lib.Pipeline.Value
public import Idealize.ShloMosaic.Lib.Pipeline.ValueKit
public import Idealize.ShloMosaic.Lib.Pipeline.Frame
public import Idealize.ShloMosaic.Lib.Claim

@[expose] public section

set_option maxRecDepth 16384

noncomputable section

namespace Cert.Combine

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## What the region finds -/

/-- A buffer of core `c` when the region is entered: as the host's one reshape leaves it. -/
abbrev entry (c : Dev nD) (b : Ref sig .tc) : Buf (Elt F) ((c : Thread nD τ).loc b) :=
  StableHlo.after (hostOps0 (F := F)) (fun b => m (c, b)) (Proc.devRef .tc b)

/-- A buffer that is not the reshape's result is as launched. -/
theorem entry_of_ne (c : Dev nD) {b : Ref sig .tc} (h : b ≠ main_v0) : entry m c b = m ((c : Thread nD τ).loc b) := by
  rw [entry, StableHlo.after_cons, StableHlo.after_nil, StableHlo.reshape_result_ne _ _ _ _ _ _ _ h]

set_option maxHeartbeats 800000 in
/-- The program is one reshape and its region. -/
theorem main_region (𝒱₀ : Variants) : Pipeline.HMainP (Ix := Unit) (Name := ℕ) (U := UD sig nD τ) (Lvl := ℕ) pcfgs 0 defs₀ 𝒱₀ m (main (F := F)) (entry m) :=
  Pipeline.hmainP_prefix pcfgs 0 defs₀ 𝒱₀ m main hostOps0 hostOps0_sub (by simp only [List.Forall]; rfl) main_chain

/-- The table of destinations as launched. -/
def tabs : pre0.Contents (Elt F) := fun j => entry m (0 : Dev nD) (pre0.ref j)

theorem entry_tabs (c : Dev nD) (j : Fin 1) : entry m c (pre0.ref j) = tabs m j := by
  obtain rfl : c = 0 := Subsingleton.elim _ _
  rfl

/-- The pipeline at that table. -/
abbrev adm : (pcfg0 (F := F)).Adm := ⟨tabs m, trivial⟩
abbrev pipe : Pipeline.Cfg sig Λ₀ := cfg0 (adm m)

/-- The destinations, as the body is lent them. -/
abbrev dests (c : Dev nD) : Bf (F := F) c destTab := tabs m 0
/-- The experts' rows as launched. -/
abbrev expertRows (c : Dev nD) : Bf (F := F) c rowsM := entry m c main_arg4

/-- Every destination is a row of the experts' rows. -/
abbrev Ok : Prop := ∀ (c : Dev nD) (i : grid0.Coords), InRange c (dests m c) i

/-- The half of the table the region lends the body. -/
theorem tabs_lent (c : Dev nD) : (Pipeline.ΦT pre0 (tabs m) c : sProp 𝕄) = tabHeld c (dests m c) := by
  unfold Pipeline.ΦT Pipeline.prefHeld
  rw [show (Finset.univ : Finset (Fin 1)) = {(0 : Fin 1)} from by decide, bigSep_singleton]
  rfl

/-- The body's own semaphore. -/
abbrev ownSem (_ : Unit) : SemLoc sig := .dma cc0_scratch1.sem
/-- The experts' rows are no window's array and no table. -/
theorem rows_rest : ({main_arg4} : Finset (Ref sig .tc)) ⊆ Pipeline.restRefsP sig pre0 spec0 := by decide
theorem ownSem_facts : Pipeline.OwnSemFacts spec0 ownSem := by decide

/-- What the body keeps from point to point: the pages at some contents, the random-number register, its semaphore at zero and
    the experts' rows. -/
def kept (c : Dev nD) : sProp 𝕄 :=
  iprop((∃ fp : Bf (F := F) c pagesM, pagesM.view.loc (c : Thread nD τ) ↦{fullShare} fp) ∗ (∃ r, prngReg c r)
    ∗ semVal ((c : Thread nD τ), SemLoc.dma cc0_scratch1.sem) 0 ∗ rowsM.view.loc (c : Thread nD τ) ↦{fullShare} expertRows m c)

theorem kept_eq (c : Dev nD) : (Pipeline.ΦD ownSem spec0 {main_arg4} (entry m) c : sProp 𝕄) = kept m c := by
  rw [Pipeline.ΦD_eq, scopedRest0_eq]
  unfold Pipeline.ownSems0 kept
  rw [bigSep_singleton, show (Finset.univ : Finset Unit) = {()} from by decide, bigSep_singleton]

/-- Window `w`'s block at point `t`, read off its array as the region finds it. -/
def blockIn (c : Dev nD) (w : Fin (pipe m).W) (t : Fin (pipe m).N) :
    (((pipe m).win w).xblock ((pipe m).grid.coords t)).Idx → Elt F ((pipe m).win w).elt :=
  (((pipe m).win w).blk t).view.read (Elt F) (entry m c (Pipeline.arrRef spec0 w))

/-! ## The staging buffers at a point -/

abbrev stg0 (t : Fin (pipe m).N) : Memref sig .tc .vmem S256x1024 .f32 := spec0_0.stage ((pipe m).slots t 0)
abbrev stgWhole0 (t : Fin (pipe m).N) : (stg0 m t).IsWhole := hstage0_0 (((pipe m).slots t 0).cast nbuf0_0)
abbrev stg1 (t : Fin (pipe m).N) : Memref sig .tc .vmem S256x2 .f32 := spec0_1.stage ((pipe m).slots t 1)
abbrev stgWhole1 (t : Fin (pipe m).N) : (stg1 m t).IsWhole := hstage0_1 (((pipe m).slots t 1).cast nbuf0_1)
abbrev stg2 (t : Fin (pipe m).N) : Memref sig .tc .vmem S1x1024 .f32 := spec0_2.stage ((pipe m).slots t 2)
abbrev stgWhole2 (t : Fin (pipe m).N) : (stg2 m t).IsWhole := hstage0_2 (((pipe m).slots t 2).cast nbuf0_2)
abbrev stg3 (t : Fin (pipe m).N) : Memref sig .tc .vmem S256x1024 .f32 := spec0_3.stage ((pipe m).slots t 3)
abbrev stgWhole3 (t : Fin (pipe m).N) : (stg3 m t).IsWhole := hstage0_3 (((pipe m).slots t 3).cast nbuf0_3)

/-- The body at point `t`, on the staging buffers the pipeline calls it with. -/
abbrev bodyAt (t : Fin (pipe m).N) : Prog (TpuEff nD τ sig (Elt F) Λ₀ .tc) PUnit :=
  cc0_combine (grid0.coords t) destTab (Memref.isWhole_whole _) (stg0 m t) (stgWhole0 m t) (stg1 m t) (stgWhole1 m t)
    (stg2 m t) (stgWhole2 m t) rowsM (Memref.isWhole_whole _) (stg3 m t) (stgWhole3 m t) pagesM (Memref.isWhole_whole _) cc0_scratch1

/-- What the result's staging buffer holds after point `t`. -/
def left (hO : Ok m) (c : Dev nD) (t : Fin (pipe m).N) : Vec F S256x1024 .f32 :=
  blockOut (blockIn m c 0 t) (blockIn m c 1 t) (blockIn m c 2 t) (gathered c (hO c (grid0.coords t)) (expertRows m c))

/-- The run's data: arrays as the region finds them, inputs' buffers left at their blocks, the result's at `left`. -/
def dats (hO : Ok m) (_ : Fin 1) (c : Dev nD) : Dat τ (Elt F) Unit ℕ (UD sig nD τ) ℕ (pipe m) c where
  A w := entry m c (Pipeline.arrRef spec0 w)
  after w t := match w with
    | ⟨0, _⟩ => blockIn m c 0 t
    | ⟨1, _⟩ => blockIn m c 1 t
    | ⟨2, _⟩ => blockIn m c 2 t
    | ⟨3, _⟩ => left m hO c t
  Φ _ := iprop(kept m c ∗ tabHeld c (dests m c))
  q _ := fullShare
  owed _ := 0

theorem A_eq (hO : Ok m) (c : Dev nD) (w : Fin (pipe m).W) : (dats m hO 0 c).A w = entry m c (Pipeline.arrRef spec0 w) := by
  dsimp only [dats]

theorem after0 (hO : Ok m) (c : Dev nD) (t : Fin (pipe m).N) : (dats m hO 0 c).after 0 t = blockIn m c 0 t := by dsimp only [dats]; try rfl
theorem after1 (hO : Ok m) (c : Dev nD) (t : Fin (pipe m).N) : (dats m hO 0 c).after 1 t = blockIn m c 1 t := by dsimp only [dats]; try rfl
theorem after2 (hO : Ok m) (c : Dev nD) (t : Fin (pipe m).N) : (dats m hO 0 c).after 2 t = blockIn m c 2 t := by dsimp only [dats]; try rfl
theorem after3 (hO : Ok m) (c : Dev nD) (t : Fin (pipe m).N) : (dats m hO 0 c).after 3 t = left m hO c t := by dsimp only [dats]; try rfl

/-- Input 0's staging buffer holds its block at every point, fetched there or not. -/
theorem before0 (hO : Ok m) (c : Dev nD) (t : Fin (pipe m).N) (d) : (dats m hO 0 c).before 0 t d = blockIn m c 0 t :=
  ((dats m hO 0 c).before_in_eq_fetched 0 rfl (fun _ => rfl) (fun _ _ _ => rfl)
    (fun t => by rw [after0]; unfold Dat.blockOf blockIn; rw [A_eq]; try rfl) t d).trans
    (by unfold Dat.fetched Dat.blockOf blockIn; rw [A_eq]; try rfl)
/-- Input 1's staging buffer holds its block at every point, fetched there or not. -/
theorem before1 (hO : Ok m) (c : Dev nD) (t : Fin (pipe m).N) (d) : (dats m hO 0 c).before 1 t d = blockIn m c 1 t :=
  ((dats m hO 0 c).before_in_eq_fetched 1 rfl (fun _ => rfl) (fun _ _ _ => rfl)
    (fun t => by rw [after1]; unfold Dat.blockOf blockIn; rw [A_eq]; try rfl) t d).trans
    (by unfold Dat.fetched Dat.blockOf blockIn; rw [A_eq]; try rfl)
/-- Input 2's staging buffer holds its block at every point, fetched there or not. -/
theorem before2 (hO : Ok m) (c : Dev nD) (t : Fin (pipe m).N) (d) : (dats m hO 0 c).before 2 t d = blockIn m c 2 t :=
  ((dats m hO 0 c).before_in_eq_fetched 2 rfl (fun _ => rfl) (fun _ _ _ => rfl)
    (fun t => by rw [after2]; unfold Dat.blockOf blockIn; rw [A_eq]; try rfl) t d).trans
    (by unfold Dat.fetched Dat.blockOf blockIn; rw [A_eq]; try rfl)

/-! ## What the core owes -/

theorem owes_out (hO : Ok m) (c : Dev nD) (t : Fin ((pipe m).N + 1)) :
    ((dats m hO 0 c).owesAt () t : sProp 𝕄) ⊢ iprop(∃ W, owes (c : Thread nD τ) 0 W) := by
  unfold Dat.owesAt Pipeline.owesWithin
  rw [show (dats m hO 0 c).owed t = 0 from rfl]
  iintro ⟨%W, -, HO⟩
  iexists W; iexact HO

theorem owes_in (hO : Ok m) (c : Dev nD) (t : Fin ((pipe m).N + 1)) (W : Waits sig Unit) :
    (owes (c : Thread nD τ) 0 W : sProp 𝕄) ⊢ (dats m hO 0 c).owesAt () t := by
  unfold Dat.owesAt Pipeline.owesWithin Dat.bound
  rw [show (dats m hO 0 c).owed t = 0 from rfl, show (dats m hO 0 c).recorded t = Set.univ from rfl]
  iintro HO
  iexists W
  isplitr
  · ipureintro; exact fun _ _ => Or.inl trivial
  iexact HO

/-! ## The body obligation -/

/-- What the body is called with at point `t`, window by window, -/
def bodyPre (hO : Ok m) (c : Dev nD) (t : Fin (pipe m).N) : sProp 𝕄 :=
  iprop((dats m hO 0 c).Φ t.castSucc ∗ (dats m hO 0 c).owesAt () t.castSucc
    ∗ (∃ d, owns (c : Thread nD τ) (stg0 m t) fullShare ((dats m hO 0 c).before 0 t d))
    ∗ (∃ d, owns (c : Thread nD τ) (stg1 m t) fullShare ((dats m hO 0 c).before 1 t d))
    ∗ (∃ d, owns (c : Thread nD τ) (stg2 m t) fullShare ((dats m hO 0 c).before 2 t d))
    ∗ (∃ d, owns (c : Thread nD τ) (stg3 m t) fullShare ((dats m hO 0 c).before 3 t d)))

/-- and what it returns. -/
def bodyPost (hO : Ok m) (c : Dev nD) (t : Fin (pipe m).N) : sProp 𝕄 :=
  iprop((dats m hO 0 c).Φ t.succ ∗ (dats m hO 0 c).owesAt () t.succ
    ∗ owns (c : Thread nD τ) (stg0 m t) fullShare ((dats m hO 0 c).after 0 t)
    ∗ owns (c : Thread nD τ) (stg1 m t) fullShare ((dats m hO 0 c).after 1 t)
    ∗ owns (c : Thread nD τ) (stg2 m t) fullShare ((dats m hO 0 c).after 2 t)
    ∗ owns (c : Thread nD τ) (stg3 m t) fullShare ((dats m hO 0 c).after 3 t))

/-- The body at any point. -/
theorem sound_body (hO : Ok m) (c : Dev nD) (t : Fin (pipe m).N) :
    bodyPre m hO c t ⊢ wp frame (wpE (defs₀ (F := F)) Variants.none c none) Set.univ (bodyAt m t) (fun _ => bodyPost m hO c t) := by
  unfold bodyPre bodyPost bodyAt
  simp only [before0, before1, before2]
  rw [after0, after1, after2, after3]
  rw [show (dats m hO 0 c).Φ t.succ = iprop(kept m c ∗ tabHeld c (dests m c)) from rfl,
    show (dats m hO 0 c).Φ t.castSucc = iprop(kept m c ∗ tabHeld c (dests m c)) from rfl]
  unfold left kept
  iintro ⟨⟨⟨HP, HG, HS, HY⟩, HT⟩, Ho, ⟨%d0, H0⟩, ⟨%d1, H1⟩, ⟨%d2, H2⟩, ⟨%d3, H3⟩⟩
  ihave Ho' := (owes_out m hO c t.castSucc) $$ Ho
  icases Ho' with ⟨%W, Ho⟩
  iapply (body_run c (grid0.coords t) _ _ _ _ _ _ _ _ (blockIn m c 0 t) (blockIn m c 1 t) (blockIn m c 2 t)
    (dests m c) (hO c (grid0.coords t)) (expertRows m c) W _)
  isplitl [H0]; · iexact H0
  isplitl [H1]; · iexact H1
  isplitl [H2]; · iexact H2
  isplitl [H3]; · iexists _; iexact H3
  isplitl [HT]; · iexact HT
  isplitl [HP]; · iexact HP
  isplitl [HY]; · iexact HY
  isplitl [HS]; · iexact HS
  isplitl [Ho]; · iexact Ho
  iintro ⟨H0, H1, H2, H3, HT, HP, HY, HS, ⟨%W', Ho⟩⟩
  isplitl [HP HG HS HY HT]
  · isplitl [HP HG HS HY]
    · isplitl [HP]; · iexact HP
      isplitl [HG]; · iexact HG
      isplitl [HS] <;> iassumption
    iexact HT
  isplitl [Ho]; · iapply (owes_in m hO c t.succ W'); iexact Ho
  isplitl [H0]; · iexact H0
  isplitl [H1]; · iexact H1
  isplitl [H2]; · iexact H2
  iexact H3

/-- The body table's row at point `t` is the body on that point's staging buffers. -/
theorem defs_row (t : Fin (pipe m).N) :
    defs₀ (F := F) .tc (pipe m).body ((pipe m).bodyArgs t ((pipe m).slots t)) = bodyAt m t := by
  unfold defs₀; rw [Defs.onTc_tc]

/-- The body obligation, at every point. -/
theorem body_obligation (hO : Ok m) (c : Dev nD) : BodyObligation (dats (F := F) m hO 0 c) (defs₀ (F := F)) Variants.none () Set.univ := fun t => by
  rw [bigSep_W0, bigSep_W0, defs_row m]
  exact triple_restated (sound_body m hO c t) rfl .rfl fun _ => .rfl

/-! ## The run and the frame -/

set_option backward.isDefEq.respectTransparency.types false in
/-- Every run ends, with the arrays at what the data say and every counter at zero. -/
theorem run_main (hO : Ok m) : θ_run defs (onTc (τ := τ) (main (F := F))) (s₀ m ρ)
    (fun r => (Pipeline.FramePost (Pipeline.pin pcfgs fun _ => adm m) (dats m hO) 0 (entry m)) r ∧ r.2.sem = fun _ => 0) :=
  Pipeline.θ_run_frameP_dma (Q' := _) pcfgs (fun _ => adm m) (dats m hO) (0 : Fin 1) launch0 ownSem defs₀ Variants.none ownSem_facts
    {main_arg4} rows_rest m ρ main
    (hbody := fun c => (body_obligation m hO c).loose) (hshare := fun c => (dats m hO 0 c).share_full fun _ => rfl)
    (howed := fun _ _ => rfl) (V := entry m) (hmain := main_region m Variants.none) (hA := A_eq m hO) (hpf := entry_tabs m)
    (hin := fun c => by
      rw [show (dats m hO 0 c).Φ 0 = iprop(kept m c ∗ tabHeld c (dests m c)) from rfl, ← kept_eq, ← tabs_lent])
    (hout := fun c => by
      rw [show (dats m hO 0 c).Φ (Fin.last _) = iprop(kept m c ∗ tabHeld c (dests m c)) from rfl, ← kept_eq]
      iintro ⟨A, -⟩
      iexact A)

/-- Every run ends, with every argument as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 (by decide : main_arg0 ∈ Pipeline.restRefs sig spec0)).trans (entry_of_ne m c (by decide)),
      ((h.1 c).1 0).trans (((dats m hO 0 c).arrAt_in 0 rfl _).trans ((A_eq m hO c 0).trans (entry_of_ne m c (b := main_arg1) (by decide)))),
      ((h.1 c).1 1).trans (((dats m hO 0 c).arrAt_in 1 rfl _).trans ((A_eq m hO c 1).trans (entry_of_ne m c (b := main_arg2) (by decide)))),
      ((h.1 c).2 main_arg3 (by decide : main_arg3 ∈ Pipeline.restRefs sig spec0)).trans (entry_of_ne m c (by decide)),
      ((h.1 c).2 main_arg4 (by decide : main_arg4 ∈ Pipeline.restRefs sig spec0)).trans (entry_of_ne m c (by decide))⟩, h.2⟩) (run_main m ρ hO)

end Cert.Combine

end
-- ==== Proof.Combine.Tables.lean ====
/- The combine call: what the precondition says of the table of destinations, and which of its words the body reads. -/
module

public import proofs.«01_k».proof.Defs
public import proofs.«01_k».proof.Proof.Combine.Frame
public import proofs.«01_k».proof.Proof.Gen.Pre_rows_in_range
public import Idealize.ShloMosaic.Lib.StableHlo.Predicate
public import Idealize.ShloMosaic.Lib.ReduceAll
public import Idealize.ShloMosaic.Lib.WordCmp

@[expose] public section

noncomputable section

namespace Cert.Combine

open Cert.Kernel5Ideal Cert.Kernel5Ideal.Gen
open Idealize.ShloMosaic Idealize.ShloMosaic.TcCoe

variable {F : FTy → Type} [FloatOps F]

/-- Every destination is the number of one of the 40960 rows. -/
def AllRows (T : IVec S32768 32) : Prop := ∀ x, (T x).toNat < 40960

/-- A word between 0 and 40960, read signed, is below 40960 read unsigned. -/
theorem word_lt {x : BitVec 32} (h0 : IntOp.cmpi .sge x 0#32 = 1#1) (h1 : IntOp.cmpi .slt x 40960#32 = 1#1) : x.toNat < 40960 := by
  have a := IntOp.cmpi_sge.1 h0
  have b := IntOp.cmpi_slt.1 h1
  rw [show (0#32 : BitVec 32).toInt = 0 from by decide] at a
  rw [show (40960#32 : BitVec 32).toInt = 40960 from by decide] at b
  have c := BitVec.toInt_eq_toNat_cond x
  have d := x.isLt
  split at c <;> omega

/-- The precondition, read. -/
theorem allRows_of_pre (T : IVec S32768 32) (a1 : FVec F S16384x1024 .f32) (a2 : FVec F S16384x2 .f32) (a3 : FVec F S1024 .f32)
    (a4 : FVec F S40960x1024 .f32) (h : Cert.Pre_rows_in_range.fn (F := F) T a1 a2 a3 a4 = fun _ => 1#1) : AllRows T := by
  have e := congrFun h (fun a => a.elim0)
  simp only [Cert.Pre_rows_in_range.fn] at e
  obtain ⟨e1, e2⟩ := IntOp.andi_eq_one.1 e
  exact fun x => word_lt (Host.reduce_andi_all _ _ _ _ _ e1 x) (Host.reduce_andi_all _ _ _ _ _ e2 x)

/-- Token `r` of block `b`. -/
def tokenIn (b : Fin 64) (r : Fin 256) : Fin 16384 := ⟨256 * b.val + r.val, by omega⟩

/-- Where choice `k` of token `R` stands in the table: all first choices, then all second ones. -/
def place (k : Fin 2) (R : Fin 16384) : Fin 32768 := ⟨k.val * 16384 + R.val, by omega⟩

/-- The word of row `r`'s first choice. -/
theorem word0_eq (c : Dev nD) (T : Bf (F := F) c destTab) (i : grid0.Coords) (r : Fin 256) :
    word0 c T i (r.cast trips1.symm) = (show IVec S32768 32 from T) (ix1 (place 0 (tokenIn (i 0) r))) := by
  refine congrArg (show IVec S32768 32 from T) (funext fun a => Fin.ext ?_)
  obtain rfl : a = (0 : Fin 1) := Subsingleton.elim (α := Fin 1) _ _
  have h0 := congrFun (k0_off1_eq i (r.cast trips1.symm)) 0
  change k0_off1 i (r.cast trips1.symm) 0 + 1 * 0 = 0 * 16384 + (256 * (i 0).val + r.val)
  rw [h0]
  change 256 * (i 0).val + r.val + 1 * 0 = _
  omega

/-- The word of row `r`'s second choice. -/
theorem word1_eq (c : Dev nD) (T : Bf (F := F) c destTab) (i : grid0.Coords) (r : Fin 256) :
    word1 c T i (r.cast trips1.symm) = (show IVec S32768 32 from T) (ix1 (place 1 (tokenIn (i 0) r))) := by
  refine congrArg (show IVec S32768 32 from T) (funext fun a => Fin.ext ?_)
  obtain rfl : a = (0 : Fin 1) := Subsingleton.elim (α := Fin 1) _ _
  have h0 := congrFun (k0_off4_eq i (r.cast trips1.symm)) 0
  change k0_off4 i (r.cast trips1.symm) 0 + 1 * 0 = 1 * 16384 + (256 * (i 0).val + r.val)
  rw [h0]
  change 256 * (i 0).val + r.val + 16384 + 1 * 0 = _
  omega

/-- A word below 40960 names a row. -/
theorem chk1_of_lt {w : BitVec 32} (h : w.toNat < 40960) : k0_chk1 w := fun a => by
  fin_cases a
  · show w.toNat + 1 ≤ 40960; omega
  · exact (by decide : 0 + 1024 ≤ 1024)
theorem chk2_of_lt {w : BitVec 32} (h : w.toNat < 40960) : k0_chk2 w := fun a => by
  fin_cases a
  · show w.toNat + 1 ≤ 40960; omega
  · exact (by decide : 0 + 1024 ≤ 1024)

/-- At destinations in range every transfer reads a row that exists. -/
theorem ok_of_allRows (m : (ℓ : Loc nD τ sig) → Buf (Elt F) ℓ) (h : AllRows (tabs m 0)) : Ok m := fun c i =>
  ⟨fun r => chk1_of_lt ((congrArg BitVec.toNat (word0_eq c (dests m c) i (r.cast trips1))).trans_lt (h _)),
    fun r => chk2_of_lt ((congrArg BitVec.toNat (word1_eq c (dests m c) i (r.cast trips1))).trans_lt (h _))⟩

/-- The table the region finds is the first argument. -/
theorem dests_eq (m : (ℓ : Loc nD τ sig) → Buf (Elt F) ℓ) : tabs m 0 = m (((0 : Dev nD) : Thread nD τ).loc main_arg0) :=
  entry_of_ne m 0 (b := main_arg0) (by decide)

/-- The precondition of the idealized program gives destinations in range. -/
theorem allRows_ideal (m : (ℓ : Loc nD τ sig) → Buf (Elt Ideal) ℓ) (h : Cert.Pre_Kernel5Ideal m) : AllRows (tabs m 0) := by
  rw [dests_eq]
  exact allRows_of_pre (F := Ideal) _ _ _ _ _ (h 0)

end Cert.Combine

end
-- ==== Proof.Combine.Same.lean ====
/- The combine call as compiled: its text is that of the idealized program, so what Frame shows at any arithmetic is shown
   of it, at machine words too. -/
module

public import proofs.«01_k».proof.Proof.Combine.Tables
public import proofs.«01_k».proof.Proof.Gen.Kernel5

@[expose] public section

noncomputable section

namespace Cert.Combine

open Idealize.ShloMosaic Idealize.ShloMosaic.TcCoe Idealize.SL.Sem

variable {F : FTy → Type} [FloatOps F]

/-- The two bodies are one. -/
theorem body_same : Cert.Kernel5.cc0_combine (F := F) = Cert.Kernel5Ideal.cc0_combine (F := F) := rfl

set_option maxHeartbeats 1000000 in
/-- So are the tables of bodies, -/
theorem rows_same : Cert.Kernel5.defs₀ (F := F) = Cert.Kernel5Ideal.defs₀ (F := F) := by
  unfold Cert.Kernel5.defs₀ Cert.Kernel5Ideal.defs₀
  refine congrArg Defs.onTc ?_
  funext b x
  match b, x with
  | 0, (t, s) =>
    exact congrFun (congrFun (congrFun (congrFun (congrFun (congrFun (congrFun (congrFun (congrFun (congrFun (congrFun (congrFun (congrFun
      (congrFun (congrFun (congrFun body_same _) _) _) _) _) _) _) _) _) _) _) _) _) _) _) _

/-- the tables of everything called, -/
theorem defs_same : Cert.Kernel5.defs (F := F) = Cert.Kernel5Ideal.defs (F := F) := by
  unfold Cert.Kernel5.defs Cert.Kernel5Ideal.defs
  rw [rows_same]
  rfl

/-- and the programs. -/
theorem main_same : Cert.Kernel5.main (F := F) = Cert.Kernel5Ideal.main (F := F) := rfl

/-- The idealized program runs from every memory in range and leaves its arguments and every counter as they were. -/
theorem quiescent_ideal : Cert.quiescent_Kernel5Ideal := fun m ρ h => frame m ρ (ok_of_allRows m (allRows_ideal m h))

/-- So does the program as compiled. -/
theorem quiescent_kernel : Cert.quiescent_Kernel5 := fun m ρ h => by
  rw [defs_same, main_same]
  refine frame (F := Bits) m ρ (ok_of_allRows (F := Bits) m ?_)
  rw [dests_eq]
  exact allRows_of_pre (F := Bits) _ _ _ _ _ (h 0)

end Cert.Combine

end
-- ==== Proof.Combine.Spec.lean ====
/- One token's output: its residual row plus the experts' rows of its two choices at their gates, divided by its root mean
   square, times the gain. And the kernel's body on one block of 256 tokens, read to it. -/
module

public import proofs.«01_k».proof.Proof.Combine.Tables
public import proofs.«01_k».proof.Proof.Trunk.Spec

@[expose] public section

set_option maxRecDepth 16384

noncomputable section

namespace Cert.Combine

open Cert.Kernel5Ideal Cert.Kernel5Ideal.Gen
open Idealize.ShloMosaic Idealize.ShloMosaic.TcCoe Cert.Trunk

/-- The row the word names, the words being row numbers. -/
def rowFor (T : S32768.Idx → BitVec 32) (k : Fin 2) (R : Fin 16384) : Fin 40960 :=
  ⟨(T (ix1 (place k R))).toNat % 40960, Nat.mod_lt _ (by norm_num)⟩

/-- The residual row plus the two experts' rows at their gates. -/
def summed (x p q : Fin 1024 → EReal) (a b : EReal) (j : Fin 1024) : EReal := x j + (a * p j + b * q j)

/-- The output of token `R`. -/
def resultRow (T : S32768.Idx → BitVec 32) (x : S16384x1024.Idx → EReal) (gates : S16384x2.Idx → EReal) (g : S1024.Idx → EReal)
    (ys : S40960x1024.Idx → EReal) (R : Fin 16384) (j : Fin 1024) : EReal :=
  normed (fun k => g (ix1 k)) (summed (rowOf x R) (rowOf ys (rowFor T 0 R)) (rowOf ys (rowFor T 1 R)) (gates (ix2 R 0)) (gates (ix2 R 1))) j

/-- An element of the first page as loaded, and of the second. -/
theorem pageLoad0_apply (G : S2x256x1024.Idx → EReal) (r : Fin 256) (j : Fin 1024) :
    pageLoad0 (F := Ideal) G (ix3 0 r j) = G (ix3 0 r j) := by
  refine congrArg G (funext fun a => Fin.ext ?_)
  fin_cases a
  · rfl
  · exact (Nat.zero_add _).trans (Nat.one_mul _)
  · exact (Nat.zero_add _).trans (Nat.one_mul _)
theorem pageLoad1_apply (G : S2x256x1024.Idx → EReal) (r : Fin 256) (j : Fin 1024) :
    pageLoad1 (F := Ideal) G (ix3 0 r j) = G (ix3 1 r j) := by
  refine congrArg G (funext fun a => Fin.ext ?_)
  fin_cases a
  · rfl
  · exact (Nat.zero_add _).trans (Nat.one_mul _)
  · exact (Nat.zero_add _).trans (Nat.one_mul _)

/-- What the body computes from the two loaded pages. -/
theorem pay_apply (x : Vec Ideal S256x1024 .f32) (gates : Vec Ideal S256x2 .f32) (g : Vec Ideal S1x1024 .f32)
    (p q : Vec Ideal S1x256x1024 .f32) (r : Fin 256) (j : Fin 1024) :
    k0_pay1 (F := Ideal) (k0_pay2 g) (k0_pay3 gates x p q) (ix2 r j)
      = normed (rowOf g 0) (summed (rowOf x r) (fun k => p (ix3 0 r k)) (fun k => q (ix3 0 r k)) (gates (ix2 r 0)) (gates (ix2 r 1))) j := by
  pointwise [k0_pay1, k0_pay2, k0_pay3]
  rfl

/-- A block, row by row. -/
theorem blockOut_apply (x : Vec Ideal S256x1024 .f32) (gates : Vec Ideal S256x2 .f32) (g : Vec Ideal S1x1024 .f32)
    (G : Vec Ideal S2x256x1024 .f32) (r : Fin 256) (j : Fin 1024) :
    blockOut (F := Ideal) x gates g G (ix2 r j)
      = normed (rowOf g 0) (summed (rowOf x r) (fun k => G (ix3 0 r k)) (fun k => G (ix3 1 r k)) (gates (ix2 r 0)) (gates (ix2 r 1))) j := by
  unfold blockOut
  rw [pay_apply, funext fun k => pageLoad0_apply G r k, funext fun k => pageLoad1_apply G r k]

end Cert.Combine

end
-- ==== Proof.Combine.Ref.lean ====
/- The plain program's output, token by token: the experts' rows picked by the destinations, weighted by the gates, added to
   the residual row and normalised. -/
module

public import proofs.«01_k».proof.Proof.Gen.Reference5Ideal.Read
public import Idealize.ShloMosaic.Lib.Pointwise
public import proofs.«01_k».proof.Proof.Combine.Spec

@[expose] public section

set_option maxRecDepth 16384

noncomputable section

namespace Cert.Combine.Ref

open Cert.Reference5Ideal Cert.Reference5Ideal.Gen Idealize.ShloMosaic Cert.Trunk Cert.Combine
open Cert.Reference5Ideal.Read

/-- One row of 40960 for each of 2 × 16384 choices. -/
abbrev pick : GatherDims S40960x1024 S2x16384x1 S2x16384x1024 := gather_S40960x1024_S2x16384x1_S2x16384x1024_2_0_n_n_0_2_11024

/-- An entry of the rows picked. -/
theorem pick_apply {α : Type} (x : S40960x1024.Idx → α) (idx : IVec S2x16384x1 32) (k : Fin 2) (R : Fin 16384) (j : Fin 1024)
    (e : Fin 40960) (he : (idx (ix3 k R 0)).toInt.toNat = e.val) : Host.gather pick x idx (ix3 k R j) = x (ix2 e j) := by
  unfold Host.gather
  congr 1
  funext a
  refine Fin.ext ?_
  show pick.start (ix3 k R j) idx a + pick.batchCoord (ix3 k R j) a + pick.offCoord (ix3 k R j) a = _
  rw [GatherDims.batchCoord_eq_zero _ _ _ List.not_mem_nil]
  have h2 : a = (0 : Fin 2) ∨ a = (1 : Fin 2) := by
    match a with
    | ⟨0, _⟩ => exact .inl rfl
    | ⟨1, _⟩ => exact .inr rfl
  rcases h2 with rfl | rfl
  · rw [GatherDims.offCoord_eq_zero _ _ _ (fun h => ((GatherDims.mem_sKept _ _).mp h).1 (List.mem_singleton.mpr rfl))]
    unfold GatherDims.start
    rw [dif_pos (show (0 : Fin 2) ∈ pick.startIndexMap from List.mem_singleton.mpr rfl)]
    have hsi : pick.siIdx (ix3 k R j) ⟨List.idxOf (0 : Fin 2) pick.startIndexMap,
        List.idxOf_lt_length_iff.2 (List.mem_singleton.mpr rfl)⟩ = ix3 k R 0 := by
      funext q
      refine Fin.ext ?_
      match q with
      | ⟨0, _⟩ => rfl
      | ⟨1, _⟩ => rfl
      | ⟨2, _⟩ => rfl
    change min (idx (pick.siIdx (ix3 k R j) _)).toInt.toNat (40960 - 1) + 0 + 0 = e.val
    rw [hsi, he]
    omega
  · unfold GatherDims.start
    rw [dif_neg (show ¬ (1 : Fin 2) ∈ pick.startIndexMap from (by decide : ¬ (1 : Fin 2) ∈ [(0 : Fin 2)]))]
    unfold GatherDims.offCoord
    rw [dif_pos ((GatherDims.mem_sKept _ _).mpr ⟨(by decide : ¬ (1 : Fin 2) ∈ [(0 : Fin 2)]), List.not_mem_nil⟩)]
    exact Nat.zero_add _

/-- A word below 40960 read signed. -/
theorem word_toInt {w : BitVec 32} (h : w.toNat < 40960) : w.toInt = w.toNat :=
  WordCmp.toInt_eq_toNat_of_lt_half (by norm_num; omega)

/-- A word below 40960 is not negative, so nothing is added to it. -/
theorem wrapped {w : BitVec 32} (h : w.toNat < 40960) : Scalar.select (IntOp.cmpi .slt w 0#32) (IntOp.addi w 40960#32) w = w := by
  have h0 : w.slt 0#32 = false := by
    rw [BitVec.slt, word_toInt h]
    simp
  change (if BitVec.ofBool (w.slt 0#32) = 1 then _ else _) = w
  rw [h0]
  rfl

variable (x0 : (⟨S32768, .i32⟩ : BufTy).Contents (Elt Ideal)) (x1 : (⟨S16384x1024, .f32⟩ : BufTy).Contents (Elt Ideal))
  (x2 : (⟨S16384x2, .f32⟩ : BufTy).Contents (Elt Ideal)) (x3 : (⟨S1024, .f32⟩ : BufTy).Contents (Elt Ideal))
  (x4 : (⟨S40960x1024, .f32⟩ : BufTy).Contents (Elt Ideal)) (hT : AllRows x0)

/-- The table by choice and token. -/
theorem v0_apply (k : Fin 2) (R : Fin 16384) : val_main_v0 (F := Ideal) x0 (ix2 k R) = x0 (ix1 (place k R)) := by
  rw [val_main_v0_apply]
  refine congrArg x0 (funext fun a => Fin.ext ?_)
  obtain rfl : a = (0 : Fin 1) := Subsingleton.elim (α := Fin 1) _ _
  rfl

include hT in
/-- The rows picked. -/
theorem v7_apply (k : Fin 2) (R : Fin 16384) (j : Fin 1024) :
    val_main_v7 (F := Ideal) x0 x4 (ix3 k R j) = x4 (ix2 (rowFor x0 k R) j) := by
  refine pick_apply x4 (val_main_v6 (F := Ideal) x0) k R j _ ?_
  have h := hT (ix1 (place k R))
  have e : val_main_v6 (F := Ideal) x0 (ix3 k R 0) = x0 (ix1 (place k R)) := by
    refine Eq.trans ?_ (wrapped h)
    rw [← v0_apply x0 k R]
    pointwise [val_main_v6, val_main_v5, val_main_v4, val_main_v3, val_main_v2, val_main_v1, val_main_c, val_main_c_0]
  rw [e, word_toInt h]
  exact (Nat.mod_eq_of_lt h).symm

include hT in
/-- The residual rows plus the weighted rows. -/
theorem v13_apply (R : Fin 16384) (j : Fin 1024) : val_main_v13 (F := Ideal) x0 x1 x2 x4 (ix2 R j)
    = summed (rowOf x1 R) (rowOf x4 (rowFor x0 0 R)) (rowOf x4 (rowFor x0 1 R)) (x2 (ix2 R 0)) (x2 (ix2 R 1)) j := by
  have h0 := v7_apply x0 x4 hT 0 R j
  have h1 := v7_apply x0 x4 hT 1 R j
  unfold val_main_v13 val_main_v12 val_main_v11
  generalize val_main_v7 (F := Ideal) x0 x4 = y at h0 h1 ⊢
  pointwise [val_main_v10, val_main_v9, val_main_v8, val_main_cst]
  rw [Fin.sum_univ_two, h0, h1]
  rfl

include hT in
/-- The output, token by token. -/
theorem v26_apply (R : Fin 16384) (j : Fin 1024) : val_main_v26 (F := Ideal) x0 x1 x2 x3 x4 (ix2 R j) = resultRow x0 x1 x2 x3 x4 R j := by
  have h := v13_apply x0 x1 x2 x4 hT R
  unfold val_main_v26 val_main_v23 val_main_v22 val_main_v21 val_main_v20 val_main_v18 val_main_v16 val_main_v15 val_main_v14
  generalize val_main_v13 (F := Ideal) x0 x1 x2 x4 = y at h ⊢
  pointwise [val_main_v25, val_main_v24, val_main_v19, val_main_v17, val_main_cst_1, val_main_cst_2, val_main_cst_3]
  simp only [h]
  rfl

end Cert.Combine.Ref

end
-- ==== Proof.Combine.Array.lean ====
/- The combine call's result as a whole array: every block a grid point writes is its 256 tokens' outputs, and the blocks
   fill the array. -/
module

public import proofs.«01_k».proof.Proof.Combine.Spec

@[expose] public section

set_option maxRecDepth 16384

noncomputable section

namespace Cert.Combine

open Cert.Kernel5Ideal Cert.Kernel5Ideal.Gen
open Idealize.ShloMosaic Idealize.ShloMosaic.TcCoe Idealize.ShloMosaic.Tactic Cert.Trunk
open Idealize.ShloMosaic.Pipeline (Dat Cfg Window)

variable (m : (ℓ : Loc nD τ sig) → Buf (Elt Ideal) ℓ) (c : Dev nD) (hO : Ok m)

/-- The gain, as the row the host's reshape leaves. -/
theorem entry_gain (k : Fin 1024) : (entry m c main_v0 : S1x1024.Idx → EReal) (ix2 0 k) = m ((c : Thread nD τ).loc main_arg3) (ix1 k) := by
  have : entry m c main_v0 = (shapeCast S1x1024 (m ((c : Thread nD τ).loc main_arg3)) shapeCasts_S1024_S1x1024 : S1x1024.Idx → EReal) := by
    rw [entry, StableHlo.after_cons, StableHlo.after_nil, StableHlo.reshape_result']
    rfl
  rw [this]
  pointwise []

/-- A grid point is its one coordinate. -/
theorem coord_eq : ∀ t : Fin grid0.N, (grid0.coords t 0).val = t.val := by decide +kernel

/-- The block each window is at, at each grid point. -/
theorem index_0 (t : Fin (pipe m).N) : ((pipe m).win 0).index t = ![t.val, 0] :=
  (by decide +kernel : ∀ t : Fin grid0.N, cc0_transform_0 (grid0.coords t) = ![t.val, 0]) t
theorem index_1 (t : Fin (pipe m).N) : ((pipe m).win 1).index t = ![t.val, 0] :=
  (by decide +kernel : ∀ t : Fin grid0.N, cc0_transform_1 (grid0.coords t) = ![t.val, 0]) t
theorem index_2 (t : Fin (pipe m).N) : ((pipe m).win 2).index t = ![0, 0] :=
  (by decide +kernel : ∀ t : Fin grid0.N, cc0_transform_2 (grid0.coords t) = ![0, 0]) t
theorem index_3 (t : Fin (pipe m).N) : ((pipe m).win 3).index t = ![t.val, 0] :=
  (by decide +kernel : ∀ t : Fin grid0.N, cc0_transform_4 (grid0.coords t) = ![t.val, 0]) t

/-- The block's residual rows. -/
theorem blk_0 (t : Fin (pipe m).N) (r : Fin 256) (k : Fin 1024) : (blockIn m c 0 t : S256x1024.Idx → EReal) (ix2 r k)
    = m ((c : Thread nD τ).loc main_arg1) (ix2 (tokenIn (grid0.coords t 0) r) k) := by
  have e := coord_eq t
  rw [← entry_of_ne m c (b := main_arg1) (by decide)]
  blk_simp [blockIn]
  congr 1
  blk_ext [index_0 m, tokenIn]

/-- The block's gates. -/
theorem blk_1 (t : Fin (pipe m).N) (r : Fin 256) (k : Fin 2) : (blockIn m c 1 t : S256x2.Idx → EReal) (ix2 r k)
    = m ((c : Thread nD τ).loc main_arg2) (ix2 (tokenIn (grid0.coords t 0) r) k) := by
  have e := coord_eq t
  rw [← entry_of_ne m c (b := main_arg2) (by decide)]
  blk_simp [blockIn]
  congr 1
  blk_ext [index_1 m, tokenIn]

/-- The gain, whole at every point. -/
theorem blk_2 (t : Fin (pipe m).N) (k : Fin 1024) : (blockIn m c 2 t : S1x1024.Idx → EReal) (ix2 0 k)
    = m ((c : Thread nD τ).loc main_arg3) (ix1 k) := by
  rw [← entry_gain m c]
  blk_simp [blockIn]
  congr 1
  blk_ext [index_2 m]

/-- The row a transfer reads is the one its token's destination names. -/
theorem source_0 (i : grid0.Coords) (r : Fin 256) : source c (hO c i) 0 r = rowFor (tabs m 0) 0 (tokenIn (i 0) r) := by
  have h := chk1_lt ((hO c i).first (r.cast trips1.symm))
  have e := congrArg BitVec.toNat (word0_eq c (dests m c) i r)
  refine Fin.ext ?_
  change (word0 c (dests m c) i (r.cast trips1.symm)).toNat = _ % 40960
  rw [e] at h ⊢
  exact (Nat.mod_eq_of_lt h).symm
theorem source_1 (i : grid0.Coords) (r : Fin 256) : source c (hO c i) 1 r = rowFor (tabs m 0) 1 (tokenIn (i 0) r) := by
  have h := chk2_lt ((hO c i).second (r.cast trips1.symm))
  have e := congrArg BitVec.toNat (word1_eq c (dests m c) i r)
  refine Fin.ext ?_
  change (word1 c (dests m c) i (r.cast trips1.symm)).toNat = _ % 40960
  rw [e] at h ⊢
  exact (Nat.mod_eq_of_lt h).symm

/-- The experts' rows are the fifth argument. -/
theorem expertRows_eq : expertRows m c = m ((c : Thread nD τ).loc main_arg4) := entry_of_ne m c (b := main_arg4) (by decide)

/-- The rows gathered for the first choices, and for the second ones. -/
theorem gathered_0 (i : grid0.Coords) (r : Fin 256) (k : Fin 1024) :
    (gathered c (hO c i) (expertRows m c) : S2x256x1024.Idx → EReal) (ix3 0 r k)
      = m ((c : Thread nD τ).loc main_arg4) (ix2 (rowFor (tabs m 0) 0 (tokenIn (i 0) r)) k) := by
  rw [← expertRows_eq m c, ← source_0 m c hO]
  rfl
theorem gathered_1 (i : grid0.Coords) (r : Fin 256) (k : Fin 1024) :
    (gathered c (hO c i) (expertRows m c) : S2x256x1024.Idx → EReal) (ix3 1 r k)
      = m ((c : Thread nD τ).loc main_arg4) (ix2 (rowFor (tabs m 0) 1 (tokenIn (i 0) r)) k) := by
  rw [← expertRows_eq m c, ← source_1 m c hO]
  rfl

/-- The block a grid point leaves. -/
theorem left_apply (t : Fin (pipe m).N) (r : Fin 256) (k : Fin 1024) :
    (left m hO c t : S256x1024.Idx → EReal) (ix2 r k)
      = resultRow (tabs m 0) (m ((c : Thread nD τ).loc main_arg1)) (m ((c : Thread nD τ).loc main_arg2))
          (m ((c : Thread nD τ).loc main_arg3)) (m ((c : Thread nD τ).loc main_arg4)) (tokenIn (grid0.coords t 0) r) k := by
  have h0 : rowOf (blockIn m c 0 t : S256x1024.Idx → EReal) r = rowOf (m ((c : Thread nD τ).loc main_arg1)) (tokenIn (grid0.coords t 0) r) :=
    funext fun k => blk_0 m c t r k
  have h2 : rowOf (blockIn m c 2 t : S1x1024.Idx → EReal) 0 = fun k => m ((c : Thread nD τ).loc main_arg3) (ix1 k) :=
    funext fun k => blk_2 m c t k
  refine (blockOut_apply _ _ _ _ r k).trans ?_
  rw [h0, h2, blk_1 m c t r 0, blk_1 m c t r 1, funext fun k => gathered_0 m c hO (grid0.coords t) r k,
    funext fun k => gathered_1 m c hO (grid0.coords t) r k]
  rfl

/-- The result is written back at every point. -/
theorem flush_3 : ∀ t : Fin (pipe m).N, ((pipe m).win 3).flush t = true :=
  (by decide +kernel : ∀ t : Fin grid0.N, Pipeline.Window.flushOf grid0 true cc0_transform_4 t = true)

/-- The result after the run. -/
theorem arr_3 : (dats m hO 0 c).arrAt 3 (pipe m).N = (fun i : S16384x1024.Idx =>
    resultRow (tabs m 0) (m ((c : Thread nD τ).loc main_arg1)) (m ((c : Thread nD τ).loc main_arg2))
      (m ((c : Thread nD τ).loc main_arg3)) (m ((c : Thread nD τ).loc main_arg4)) (i 0) (i 1)) := by
  refine (dats m hO 0 c).arrAt_eq_of_emb 3 _ (fun t _ (y : S256x1024.Idx) => ?_) fun (i : S16384x1024.Idx) => ?_
  · blk_simp
    rw [after3]
    refine (congrArg _ (ix2_eta (n0 := 256) (n1 := 1024) y).symm).trans ((left_apply m c hO t (y 0) (y 1)).trans ?_)
    have e := coord_eq t
    have e0 : tokenIn (grid0.coords t 0) (y 0) = ((((pipe m).win 3).blk t).view.emb y : S16384x1024.Idx) (0 : Fin 2) :=
      Fin.ext (by blk_simp [index_3 m]; change 256 * (grid0.coords t 0).val + (y 0).val = _; omega)
    have e1 : y 1 = ((((pipe m).win 3).blk t).view.emb y : S16384x1024.Idx) (1 : Fin 2) := Fin.ext (by blk_simp [index_3 m])
    exact congrArg₂ (resultRow _ _ _ _ _) e0 e1
  · have h0 : (i 0).val < 16384 := (i 0).isLt
    have h1 : (i 1).val < 1024 := (i 1).isLt
    refine ⟨(⟨(i 0).val / 256, by change _ < 64; omega⟩ : Fin grid0.N), flush_3 m _, ?_⟩
    refine Finset.mem_map.mpr ⟨(ix2 (⟨(i 0).val % 256, by omega⟩ : Fin 256) (i 1) : S256x1024.Idx), Finset.mem_univ _, ?_⟩
    blk_ext [index_3 m]

end Cert.Combine

end
-- ==== Proof.Combine.Equation.lean ====
/- The combine call's claims: at destinations in range the two programs end at the same array, and the plain program leaves
   its arguments alone. -/
module

public import proofs.«01_k».proof.Defs
public import proofs.«01_k».proof.Proof.Gen.Reference5Ideal.Run
public import Idealize.ShloMosaic.Lib.Quiescent
public import proofs.«01_k».proof.Proof.Combine.Ref
public import proofs.«01_k».proof.Proof.Combine.Array

@[expose] public section

noncomputable section

namespace Cert.Combine

open Idealize.ShloMosaic Idealize.ShloMosaic.TcCoe Idealize.SL.Sem Cert.Trunk

/-- The plain program runs and leaves its arguments and every counter as they were. -/
theorem quiescent_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

section Run

open Cert.Kernel5Ideal Cert.Kernel5Ideal.Gen

/-- Every run of the kernel ends with the result array at what the run's data say and the arguments as launched. -/
theorem run_result (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c.tc : Thread nD τ).loc main_v1) = (dats m hO 0 c).arrAt 3 (pipe m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c).1 3,
      ((h.1 c).2 main_arg0 (by decide : main_arg0 ∈ Pipeline.restRefs sig spec0)).trans (entry_of_ne m c (by decide)),
      ((h.1 c).1 0).trans (((dats m hO 0 c).arrAt_in 0 rfl _).trans ((A_eq m hO c 0).trans (entry_of_ne m c (b := main_arg1) (by decide)))),
      ((h.1 c).1 1).trans (((dats m hO 0 c).arrAt_in 1 rfl _).trans ((A_eq m hO c 1).trans (entry_of_ne m c (b := main_arg2) (by decide)))),
      ((h.1 c).2 main_arg3 (by decide : main_arg3 ∈ Pipeline.restRefs sig spec0)).trans (entry_of_ne m c (by decide)),
      ((h.1 c).2 main_arg4 (by decide : main_arg4 ∈ Pipeline.restRefs sig spec0)).trans (entry_of_ne m c (by decide))⟩) (run_main m ρ hO)

end Run

/-- The plain program's result, as one array. -/
theorem ref_eq (x0 : Cert.Reference5Ideal.S32768.Idx → BitVec 32) (x1 : Cert.Reference5Ideal.S16384x1024.Idx → EReal)
    (x2 : Cert.Reference5Ideal.S16384x2.Idx → EReal) (x3 : Cert.Reference5Ideal.S1024.Idx → EReal)
    (x4 : Cert.Reference5Ideal.S40960x1024.Idx → EReal) (hT : AllRows x0) :
    Cert.Reference5Ideal.Read.val_main_v26 (F := Ideal) x0 x1 x2 x3 x4
      = fun i : Cert.Reference5Ideal.S16384x1024.Idx => resultRow x0 x1 x2 x3 x4 (i 0) (i 1) := by
  funext i
  exact (congrArg _ (ix2_eta (n0 := 16384) (n1 := 1024) i).symm).trans (Ref.v26_apply x0 x1 x2 x3 x4 hT (i 0) (i 1))

/-- At destinations in range the kernel's result is the plain program's. -/
theorem algebraic : Cert.algebraic_Kernel5Ideal_Reference5Ideal := by
  intro m ρ m' ρ' hpre hagree
  have hT := allRows_ideal m hpre
  have hO : Ok m := ok_of_allRows m hT
  refine ⟨fun c => (dats m hO 0 c).arrAt 3 (pipe m).N, run_result m ρ hO, ?_⟩
  refine (θ_run Cert.Reference5Ideal.defs _ _).mono (fun r h c => ?_) (Cert.Reference5Ideal.Value.run (F := Ideal) m' ρ')
  obtain ⟨h0, h1, h2, h3, h4⟩ := hagree c
  obtain ⟨r0, hr⟩ := h c
  refine ⟨(r0.trans (Cert.Reference5Ideal.Read.val_main_v26_eq _ _ _ _ _)).trans (Eq.trans ?_ (arr_3 m c hO).symm), hr⟩
  have t0 : m ((c.tc : Thread Cert.Kernel5Ideal.nD Cert.Kernel5Ideal.τ).loc Cert.Kernel5Ideal.main_arg0) = tabs m 0 := by
    obtain rfl : c = 0 := Subsingleton.elim _ _
    exact (dests_eq m).symm
  rw [h0, h1, h2, h3, h4, t0]
  exact ref_eq (tabs m 0) _ _ _ _ hT

end Cert.Combine

end
-- ==== Proof.lean ====
/- The certificate's claim, assembled: the frames from the generated launches, the values from the modules of Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Launch
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_tables_in_range
public import proofs.«01_k».proof.Proof.Gen.Kernel5
public import proofs.«01_k».proof.Proof.Gen.Kernel5Ideal
public import proofs.«01_k».proof.Proof.Gen.Kernel5Ideal.Launch
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_rows_in_range
public import proofs.«01_k».proof.Proof.Trunk.Equation
public import proofs.«01_k».proof.Proof.Experts.Same
public import proofs.«01_k».proof.Proof.Experts.Equation
public import proofs.«01_k».proof.Proof.MixerIn.Equation
public import proofs.«01_k».proof.Proof.Memory.Equation
public import proofs.«01_k».proof.Proof.Combine.Same
public import proofs.«01_k».proof.Proof.Combine.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Pre_tables_in_range.Gen.facts, Cert.Pre_rows_in_range.Gen.facts,
  fun m ρ _ => Cert.Kernel.Gen.frame m ρ,
  fun m ρ _ => Cert.KernelIdeal.Gen.frame m ρ,
  Cert.Trunk.quiescent_reference,
  Cert.Experts.quiescent_kernel,
  Cert.Experts.quiescent_ideal,
  Cert.Experts.quiescent_reference,
  fun m ρ _ => Cert.Experts.quiescent_reference m ρ trivial,
  fun m ρ _ => Cert.Kernel3.Gen.frame m ρ,
  fun m ρ _ => Cert.Kernel3Ideal.Gen.frame m ρ,
  Cert.MixerIn.quiescent_reference,
  fun m ρ _ => Cert.Kernel4.Gen.frame m ρ,
  fun m ρ _ => Cert.Kernel4Ideal.Gen.frame m ρ,
  Cert.Memory.quiescent_reference,
  Cert.Combine.quiescent_kernel,
  Cert.Combine.quiescent_ideal,
  Cert.Combine.quiescent_reference,
  fun m ρ _ => Cert.Combine.quiescent_reference m ρ trivial,
  trivial, Cert.Trunk.algebraic, trivial, Cert.Experts.algebraic, trivial, Cert.MixerIn.algebraic, trivial, Cert.Memory.algebraic,
  trivial, Cert.Combine.algebraic⟩

end Cert.Proof

end
